-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v26_0)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v29)) (v6 : (c : Dev Cert.KernelIdeal.nD) → Buf (Elt Ideal) ((c.tc : Thread Cert.KernelIdeal.nD Cert.KernelIdeal.τ).loc Cert.KernelIdeal.main_v21)) (v7 : (c : Dev Cert.KernelIdeal.nD) → Buf (Elt Ideal) ((c.tc : Thread Cert.KernelIdeal.nD Cert.KernelIdeal.τ).loc Cert.KernelIdeal.main_v32)) (v8 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v29) = v5 c
          ∧ r.2.mem ((c.tc : Thread Cert.KernelIdeal.nD Cert.KernelIdeal.τ).loc Cert.KernelIdeal.main_v21) = v6 c
          ∧ r.2.mem ((c.tc : Thread Cert.KernelIdeal.nD Cert.KernelIdeal.τ).loc Cert.KernelIdeal.main_v32) = v7 c
          ∧ r.2.mem ((c.tc : Thread Cert.KernelIdeal.nD Cert.KernelIdeal.τ).loc Cert.KernelIdeal.main_v33) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_v131) = v6 c
          ∧ r.2.mem ((c.tc : Thread Cert.ReferenceIdeal.nD Cert.ReferenceIdeal.τ).loc Cert.ReferenceIdeal.main_v93) = v7 c
          ∧ r.2.mem ((c.tc : Thread Cert.ReferenceIdeal.nD Cert.ReferenceIdeal.τ).loc Cert.ReferenceIdeal.main_v87) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v53)) (v1 : (c : Dev Cert.Kernel2Ideal.nD) → Buf (Elt Ideal) ((c.tc : Thread Cert.Kernel2Ideal.nD Cert.Kernel2Ideal.τ).loc Cert.Kernel2Ideal.main_v54)) (v2 : (c : Dev Cert.Kernel2Ideal.nD) → Buf (Elt Ideal) ((c.tc : Thread Cert.Kernel2Ideal.nD Cert.Kernel2Ideal.τ).loc Cert.Kernel2Ideal.main_v57)) (v3 : (c : Dev Cert.Kernel2Ideal.nD) → Buf (Elt Ideal) ((c.tc : Thread Cert.Kernel2Ideal.nD Cert.Kernel2Ideal.τ).loc Cert.Kernel2Ideal.main_v31)) (v4 : (c : Dev Cert.Kernel2Ideal.nD) → Buf (Elt Ideal) ((c.tc : Thread Cert.Kernel2Ideal.nD Cert.Kernel2Ideal.τ).loc Cert.Kernel2Ideal.main_v58)) (v5 : (c : Dev Cert.Kernel2Ideal.nD) → Buf (Elt Ideal) ((c.tc : Thread Cert.Kernel2Ideal.nD Cert.Kernel2Ideal.τ).loc Cert.Kernel2Ideal.main_v59)) (v6 : (c : Dev Cert.Kernel2Ideal.nD) → Buf (Elt Ideal) ((c.tc : Thread Cert.Kernel2Ideal.nD Cert.Kernel2Ideal.τ).loc Cert.Kernel2Ideal.main_v52)) (v7 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53) = v0 c
          ∧ r.2.mem ((c.tc : Thread Cert.Kernel2Ideal.nD Cert.Kernel2Ideal.τ).loc Cert.Kernel2Ideal.main_v54) = v1 c
          ∧ r.2.mem ((c.tc : Thread Cert.Kernel2Ideal.nD Cert.Kernel2Ideal.τ).loc Cert.Kernel2Ideal.main_v57) = v2 c
          ∧ r.2.mem ((c.tc : Thread Cert.Kernel2Ideal.nD Cert.Kernel2Ideal.τ).loc Cert.Kernel2Ideal.main_v31) = v3 c
          ∧ r.2.mem ((c.tc : Thread Cert.Kernel2Ideal.nD Cert.Kernel2Ideal.τ).loc Cert.Kernel2Ideal.main_v58) = v4 c
          ∧ r.2.mem ((c.tc : Thread Cert.Kernel2Ideal.nD Cert.Kernel2Ideal.τ).loc Cert.Kernel2Ideal.main_v59) = v5 c
          ∧ r.2.mem ((c.tc : Thread Cert.Kernel2Ideal.nD Cert.Kernel2Ideal.τ).loc Cert.Kernel2Ideal.main_v52) = v6 c
          ∧ r.2.mem ((c.tc : Thread Cert.Kernel2Ideal.nD Cert.Kernel2Ideal.τ).loc Cert.Kernel2Ideal.main_v44) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v38) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v47) = v5 c
          ∧ r.2.mem ((c.tc : Thread Cert.Reference2Ideal.nD Cert.Reference2Ideal.τ).loc Cert.Reference2Ideal.main_v87) = v6 c
          ∧ r.2.mem ((c.tc : Thread Cert.Reference2Ideal.nD Cert.Reference2Ideal.τ).loc Cert.Reference2Ideal.main_v88) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4096x1024 : Shape := ⟨2, ![4096, 1024]⟩
abbrev S4096x256 : Shape := ⟨2, ![4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part3 {F : FTy → Type} [FloatOps F] (main_arg12 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S4096x1024 .f32 := Host.absf main_arg12
  let main_cst_22 : FVec F S_ .f32 := constant S_ .f32 0x7F800000#32
  let main_v49 : FVec F S4096x1024 .f32 := broadcastInDim S4096x1024 ![] bcast_S_S4096x1024 main_cst_22
  let main_v50 : IVec S4096x1024 1 := cmpf .olt main_v48 main_v49
  let main_c_23 : IVec S_ 1 := constantI S_ 1 1#1
  let main_v51 : IVec S_ 1 := (fun x v => Host.reduce IntOp.andi x v reducesTo_S4096x1024_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg8 : FVec F S1024x1024 .f32) (main_arg9 : FVec F S256x1024 .f32) (main_arg10 : FVec F S1024 .f32) (main_arg11 : FVec F S1024 .f32) (main_arg12 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1024 .f32 := Host.absf main_arg8
  let main_cst_14 : FVec F S_ .f32 := constant S_ .f32 0x7F800000#32
  let main_v33 : FVec F S1024x1024 .f32 := broadcastInDim S1024x1024 ![] bcast_S_S1024x1024 main_cst_14
  let main_v34 : IVec S1024x1024 1 := cmpf .olt main_v32 main_v33
  let main_c_15 : IVec S_ 1 := constantI S_ 1 1#1
  let main_v35 : IVec S_ 1 := (fun x v => Host.reduce IntOp.andi x v reducesTo_S1024x1024_S_d0_1 h_S_) main_v34 main_c_15
  let main_v36 : FVec F S256x1024 .f32 := Host.absf main_arg9
  let main_cst_16 : FVec F S_ .f32 := constant S_ .f32 0x7F800000#32
  let main_v37 : FVec F S256x1024 .f32 := broadcastInDim S256x1024 ![] bcast_S_S256x1024 main_cst_16
  let main_v38 : IVec S256x1024 1 := cmpf .olt main_v36 main_v37
  let main_c_17 : IVec S_ 1 := constantI S_ 1 1#1
  let main_v39 : IVec S_ 1 := (fun x v => Host.reduce IntOp.andi x v reducesTo_S256x1024_S_d0_1 h_S_) main_v38 main_c_17
  let main_v40 : FVec F S1024 .f32 := Host.absf main_arg10
  let main_cst_18 : FVec F S_ .f32 := constant S_ .f32 0x7F800000#32
  let main_v41 : FVec F S1024 .f32 := broadcastInDim S1024 ![] bcast_S_S1024 main_cst_18
  let main_v42 : IVec S1024 1 := cmpf .olt main_v40 main_v41
  let main_c_19 : IVec S_ 1 := constantI S_ 1 1#1
  let main_v43 : IVec S_ 1 := (fun x v => Host.reduce IntOp.andi x v reducesTo_S1024_S_d0 h_S_) main_v42 main_c_19
  let main_v44 : FVec F S1024 .f32 := Host.absf main_arg11
  let main_cst_20 : FVec F S_ .f32 := constant S_ .f32 0x7F800000#32
  let main_v45 : FVec F S1024 .f32 := broadcastInDim S1024 ![] bcast_S_S1024 main_cst_20
  let main_v46 : IVec S1024 1 := cmpf .olt main_v44 main_v45
  let main_c_21 : IVec S_ 1 := constantI S_ 1 1#1
  let main_v47 : IVec S_ 1 := (fun x v => Host.reduce IntOp.andi x v reducesTo_S1024_S_d0 h_S_) main_v46 main_c_21
  fn_part3 (F := F) main_arg12 main_v3 main_v7 main_v11 main_v15 main_v19 main_v23 main_v27 main_v31 main_v35 main_v39 main_v43 main_v47

def fn_part1 {F : FTy → Type} [FloatOps F] (main_arg4 : FVec F S1024 .f32) (main_arg5 : FVec F S1024 .f32) (main_arg6 : FVec F S1024x5632 .f32) (main_arg7 : FVec F S2816x1024 .f32) (main_arg8 : FVec F S1024x1024 .f32) (main_arg9 : FVec F S256x1024 .f32) (main_arg10 : FVec F S1024 .f32) (main_arg11 : FVec F S1024 .f32) (main_arg12 : FVec F S4096x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x5632 .f32 := Host.absf main_arg6
  let main_cst_10 : FVec F S_ .f32 := constant S_ .f32 0x7F800000#32
  let main_v25 : FVec F S1024x5632 .f32 := broadcastInDim S1024x5632 ![] bcast_S_S1024x5632 main_cst_10
  let main_v26 : IVec S1024x5632 1 := cmpf .olt main_v24 main_v25
  let main_c_11 : IVec S_ 1 := constantI S_ 1 1#1
  let main_v27 : IVec S_ 1 := (fun x v => Host.reduce IntOp.andi x v reducesTo_S1024x5632_S_d0_1 h_S_) main_v26 main_c_11
  let main_v28 : FVec F S2816x1024 .f32 := Host.absf main_arg7
  let main_cst_12 : FVec F S_ .f32 := constant S_ .f32 0x7F800000#32
  let main_v29 : FVec F S2816x1024 .f32 := broadcastInDim S2816x1024 ![] bcast_S_S2816x1024 main_cst_12
  let main_v30 : IVec S2816x1024 1 := cmpf .olt main_v28 main_v29
  let main_c_13 : IVec S_ 1 := constantI S_ 1 1#1
  let main_v31 : IVec S_ 1 := (fun x v => Host.reduce IntOp.andi x v reducesTo_S2816x1024_S_d0_1 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S4096x1024 .f32) (main_arg1 : FVec F S4096x1024 .f32) (main_arg2 : FVec F S4096x256 .f32) (main_arg3 : FVec F S1024x1024 .f32) (main_arg4 : FVec F S1024 .f32) (main_arg5 : FVec F S1024 .f32) (main_arg6 : FVec F S1024x5632 .f32) (main_arg7 : FVec F S2816x1024 .f32) (main_arg8 : FVec F S1024x1024 .f32) (main_arg9 : FVec F S256x1024 .f32) (main_arg10 : FVec F S1024 .f32) (main_arg11 : FVec F S1024 .f32) (main_arg12 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S4096x256 .f32 := Host.absf main_arg2
  let main_cst_2 : FVec F S_ .f32 := constant S_ .f32 0x7F800000#32
  let main_v9 : FVec F S4096x256 .f32 := broadcastInDim S4096x256 ![] bcast_S_S4096x256 main_cst_2
  let main_v10 : IVec S4096x256 1 := cmpf .olt main_v8 main_v9
  let main_c_3 : IVec S_ 1 := constantI S_ 1 1#1
  let main_v11 : IVec S_ 1 := (fun x v => Host.reduce IntOp.andi x v reducesTo_S4096x256_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_arg7 main_arg8 main_arg9 main_arg10 main_arg11 main_arg12 main_v3 main_v7 main_v11 main_v15
-- ==== Kernel.lean ====
abbrev S4096x1024 : Shape := ⟨2, ![4096, 1024]⟩
abbrev S4096x256 : Shape := ⟨2, ![4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S1024x8x704 : Shape := ⟨3, ![1024, 8, 704]⟩
abbrev S8x1024x704 : Shape := ⟨3, ![8, 1024, 704]⟩
abbrev S1x1024 : Shape := ⟨2, ![1, 1024]⟩
abbrev S1024x1 : Shape := ⟨2, ![1024, 1]⟩
abbrev S2x4x4096x704 : Shape := ⟨4, ![2, 4, 4096, 704]⟩
abbrev S4x4096x704 : Shape := ⟨3, ![4, 4096, 704]⟩
abbrev S1x1024x704 : Shape := ⟨3, ![1, 1024, 704]⟩
abbrev S2x1x1024x704 : Shape := ⟨4, ![2, 1, 1024, 704]⟩
abbrev S1024x704 : Shape := ⟨2, ![1024, 704]⟩
abbrev S1x1x1024x704 : Shape := ⟨4, ![1, 1, 1024, 704]⟩
abbrev S4x1024x704 : Shape := ⟨3, ![4, 1024, 704]⟩
abbrev S704x1024 : Shape := ⟨2, ![704, 1024]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S1x4096x704 : Shape := ⟨3, ![1, 4096, 704]⟩
abbrev S4096x704 : Shape := ⟨2, ![4096, 704]⟩
abbrev S8x4096x704 : Shape := ⟨3, ![8, 4096, 704]⟩
abbrev S8x512x704 : Shape := ⟨3, ![8, 512, 704]⟩
abbrev S1x512x704 : Shape := ⟨3, ![1, 512, 704]⟩
abbrev S512x704 : Shape := ⟨2, ![512, 704]⟩

abbrev nBuf : Space → Nat
  | .hbm => 58
  | .vmem => 127
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1024, .f32⟩
  | .hbm, ⟨12, _⟩ => ⟨S4096x1024, .f32⟩
  | .hbm, ⟨13, _⟩ => ⟨S4096x1024, .bf16⟩
  | .hbm, ⟨14, _⟩ => ⟨S1024x1024, .bf16⟩
  | .hbm, ⟨15, _⟩ => ⟨S2816x1024, .bf16⟩
  | .hbm, ⟨16, _⟩ => ⟨S1024x1024, .bf16⟩
  | .hbm, ⟨17, _⟩ => ⟨S256x1024, .bf16⟩
  | .hbm, ⟨18, _⟩ => ⟨S1024x5632, .bf16⟩
  | .hbm, ⟨19, _⟩ => ⟨S1024x8x704, .bf16⟩
  | .hbm, ⟨20, _⟩ => ⟨S8x1024x704, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S2x4x4096x704, .bf16⟩
  | .hbm, ⟨29, _⟩ => ⟨S4x4096x704, .bf16⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S1x1024, .f32⟩
  | .hbm, ⟨40, _⟩ => ⟨S1x1024, .f32⟩
  | .hbm, ⟨41, _⟩ => ⟨S4096x1024, .f32⟩
  | .hbm, ⟨42, _⟩ => ⟨S2816x1024, .f32⟩
  | .hbm, ⟨43, _⟩ => ⟨S2x4x4096x704, .bf16⟩
  | .hbm, ⟨44, _⟩ => ⟨S8x4096x704, .bf16⟩
  | .hbm, ⟨45, _⟩ => ⟨S8x1024x704, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S1024x8x704, .f32⟩
  | .hbm, ⟨53, _⟩ => ⟨S1024x5632, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S2x1x1024x704, .bf16⟩
  | .local _ .vmem, ⟨22, _⟩ => ⟨S2x1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S4x1024x704, .bf16⟩
  | .local _ .vmem, ⟨26, _⟩ => ⟨S4x1024x704, .bf16⟩
  | .local _ .vmem, ⟨27, _⟩ => ⟨S2816x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x1024, .f32⟩
  | .local _ .vmem, ⟨35, _⟩ => ⟨S1024x256, .f32⟩
  | .local _ .vmem, ⟨36, _⟩ => ⟨S1024x256, .f32⟩
  | .local _ .vmem, ⟨37, _⟩ => ⟨S256x1024, .bf16⟩
  | .local _ .vmem, ⟨38, _⟩ => ⟨S1024x1024, .f32⟩
  | .local _ .vmem, ⟨39, _⟩ => ⟨S1024x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S1x1024, .f32⟩
  | .local _ .vmem, ⟨49, _⟩ => ⟨S1x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .bf16⟩
  | .local _ .vmem, ⟨53, _⟩ => ⟨S512x1024, .bf16⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S1x1024, .f32⟩
  | .local _ .vmem, ⟨63, _⟩ => ⟨S1x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .bf16⟩
  | .local _ .vmem, ⟨69, _⟩ => ⟨S512x1024, .bf16⟩
  | .local _ .vmem, ⟨70, _⟩ => ⟨S512x1024, .bf16⟩
  | .local _ .vmem, ⟨71, _⟩ => ⟨S512x1024, .bf16⟩
  | .local _ .vmem, ⟨72, _⟩ => ⟨S512x1024, .bf16⟩
  | .local _ .vmem, ⟨73, _⟩ => ⟨S512x1024, .bf16⟩
  | .local _ .vmem, ⟨74, _⟩ => ⟨S1x1024, .f32⟩
  | .local _ .vmem, ⟨75, _⟩ => ⟨S1x1024, .f32⟩
  | .local _ .vmem, ⟨76, _⟩ => ⟨S1024x1024, .bf16⟩
  | .local _ .vmem, ⟨77, _⟩ => ⟨S1024x1024, .bf16⟩
  | .local _ .vmem, ⟨78, _⟩ => ⟨S1024x1024, .bf16⟩
  | .local _ .vmem, ⟨79, _⟩ => ⟨S1024x1024, .f32⟩
  | .local _ .vmem, ⟨80, _⟩ => ⟨S1024x1024, .f32⟩
  | .local _ .vmem, ⟨81, _⟩ => ⟨S1x4096x704, .bf16⟩
  | .local _ .vmem, ⟨82, _⟩ => ⟨S1x4096x704, .bf16⟩
  | .local _ .vmem, ⟨83, _⟩ => ⟨S4096x1024, .bf16⟩
  | .local _ .vmem, ⟨84, _⟩ => ⟨S704x1024, .f32⟩
  | .local _ .vmem, ⟨85, _⟩ => ⟨S704x1024, .f32⟩
  | .local _ .vmem, ⟨86, _⟩ => ⟨S1024x1024, .bf16⟩
  | .local _ .vmem, ⟨87, _⟩ => ⟨S1024x1024, .bf16⟩
  | .local _ .vmem, ⟨88, _⟩ => ⟨S704x1024, .bf16⟩
  | .local _ .vmem, ⟨89, _⟩ => ⟨S704x1024, .bf16⟩
  | .local _ .vmem, ⟨90, _⟩ => ⟨S2x1x1024x704, .bf16⟩
  | .local _ .vmem, ⟨91, _⟩ => ⟨S2x1x1024x704, .bf16⟩
  | .local _ .vmem, ⟨92, _⟩ => ⟨S2x1x1024x704, .bf16⟩
  | .local _ .vmem, ⟨93, _⟩ => ⟨S2x1x1024x704, .bf16⟩
  | .local _ .vmem, ⟨94, _⟩ => ⟨S4096x1024, .bf16⟩
  | .local _ .vmem, ⟨95, _⟩ => ⟨S1x4096x704, .bf16⟩
  | .local _ .vmem, ⟨96, _⟩ => ⟨S1x4096x704, .bf16⟩
  | .local _ .vmem, ⟨97, _⟩ => ⟨S1x1024x704, .f32⟩
  | .local _ .vmem, ⟨98, _⟩ => ⟨S1x1024x704, .f32⟩
  | .local _ .vmem, ⟨99, _⟩ => ⟨S8x512x704, .bf16⟩
  | .local _ .vmem, ⟨100, _⟩ => ⟨S8x512x704, .bf16⟩
  | .local _ .vmem, ⟨101, _⟩ => ⟨S8x1024x704, .bf16⟩
  | .local _ .vmem, ⟨102, _⟩ => ⟨S512x1024, .f32⟩
  | .local _ .vmem, ⟨103, _⟩ => ⟨S512x1024, .f32⟩
  | .local _ .vmem, ⟨104, _⟩ => ⟨S512x1024, .f32⟩
  | .local _ .vmem, ⟨105, _⟩ => ⟨S512x1024, .f32⟩
  | .local _ .vmem, ⟨106, _⟩ => ⟨S512x1024, .f32⟩
  | .local _ .vmem, ⟨107, _⟩ => ⟨S512x1024, .f32⟩
  | .local _ .vmem, ⟨108, _⟩ => ⟨S1x1024, .f32⟩
  | .local _ .vmem, ⟨109, _⟩ => ⟨S1x1024, .f32⟩
  | .local _ .vmem, ⟨110, _⟩ => ⟨S512x1024, .f32⟩
  | .local _ .vmem, ⟨111, _⟩ => ⟨S512x1024, .f32⟩
  | .local _ .vmem, ⟨112, _⟩ => ⟨S512x1024, .f32⟩
  | .local _ .vmem, ⟨113, _⟩ => ⟨S512x1024, .f32⟩
  | .local _ .vmem, ⟨114, _⟩ => ⟨S512x1024, .f32⟩
  | .local _ .vmem, ⟨115, _⟩ => ⟨S512x1024, .f32⟩
  | .local _ .vmem, ⟨116, _⟩ => ⟨S512x1024, .f32⟩
  | .local _ .vmem, ⟨117, _⟩ => ⟨S512x1024, .f32⟩
  | .local _ .vmem, ⟨118, _⟩ => ⟨S512x1024, .bf16⟩
  | .local _ .vmem, ⟨119, _⟩ => ⟨S512x1024, .bf16⟩
  | .local _ .vmem, ⟨120, _⟩ => ⟨S1x1024, .f32⟩
  | .local _ .vmem, ⟨121, _⟩ => ⟨S1x1024, .f32⟩
  | .local _ .vmem, ⟨122, _⟩ => ⟨S1024x1024, .bf16⟩
  | .local _ .vmem, ⟨123, _⟩ => ⟨S1024x1024, .bf16⟩
  | .local _ .vmem, ⟨124, _⟩ => ⟨S1024x1024, .bf16⟩
  | .local _ .vmem, ⟨125, _⟩ => ⟨S1024x1024, .f32⟩
  | .local _ .vmem, ⟨126, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | _, _ => false

abbrev semScoped : Fin 0 → Bool
  | ⟨_, h⟩ => absurd h (Nat.not_lt_zero _)

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  ofTc nBuf bufTy 0 127 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14_0 : Ref sig .tc := ⟨.hbm, 28, rfl⟩
abbrev main_v14_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev main_v19_4 : Ref sig .tc := ⟨.hbm, 39, rfl⟩
abbrev main_v19_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_v26_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg3_1 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg6_1 : Ref sig .tc := ⟨.vmem, 65, rfl⟩
abbrev cc7_stg7_0 : Ref sig .tc := ⟨.vmem, 66, rfl⟩
abbrev cc7_stg7_1 : Ref sig .tc := ⟨.vmem, 67, rfl⟩
abbrev cc7_stg8_0 : Ref sig .tc := ⟨.vmem, 68, rfl⟩
abbrev cc7_stg8_1 : Ref sig .tc := ⟨.vmem, 69, rfl⟩
abbrev cc7_stg9_0 : Ref sig .tc := ⟨.vmem, 70, rfl⟩
abbrev cc7_stg9_1 : Ref sig .tc := ⟨.vmem, 71, rfl⟩
abbrev cc7_stg10_0 : Ref sig .tc := ⟨.vmem, 72, rfl⟩
abbrev cc7_stg10_1 : Ref sig .tc := ⟨.vmem, 73, rfl⟩
abbrev cc7_stg11_0 : Ref sig .tc := ⟨.vmem, 74, rfl⟩
abbrev cc7_stg12_0 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg2_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg2_0 : Ref sig .tc := ⟨.vmem, 84, rfl⟩
abbrev cc9_stg2_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg1_1 : Ref sig .tc := ⟨.vmem, 89, rfl⟩
abbrev cc10_stg2_0 : Ref sig .tc := ⟨.vmem, 90, rfl⟩
abbrev cc10_stg2_1 : Ref sig .tc := ⟨.vmem, 91, rfl⟩
abbrev cc10_stg3_0 : Ref sig .tc := ⟨.vmem, 92, rfl⟩
abbrev cc10_stg3_1 : Ref sig .tc := ⟨.vmem, 93, rfl⟩
abbrev cc11_stg0_0 : Ref sig .tc := ⟨.vmem, 94, rfl⟩
abbrev cc11_stg1_0 : Ref sig .tc := ⟨.vmem, 95, rfl⟩
abbrev cc11_stg1_1 : Ref sig .tc := ⟨.vmem, 96, rfl⟩
abbrev cc11_stg2_0 : Ref sig .tc := ⟨.vmem, 97, rfl⟩
abbrev cc11_stg2_1 : Ref sig .tc := ⟨.vmem, 98, rfl⟩
abbrev cc12_stg0_0 : Ref sig .tc := ⟨.vmem, 99, rfl⟩
abbrev cc12_stg0_1 : Ref sig .tc := ⟨.vmem, 100, rfl⟩
abbrev cc12_stg1_0 : Ref sig .tc := ⟨.vmem, 101, rfl⟩
abbrev cc12_stg2_0 : Ref sig .tc := ⟨.vmem, 102, rfl⟩
abbrev cc12_stg2_1 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg1_1 : Ref sig .tc := ⟨.vmem, 107, rfl⟩
abbrev cc13_stg2_0 : Ref sig .tc := ⟨.vmem, 108, rfl⟩
abbrev cc13_stg3_0 : Ref sig .tc := ⟨.vmem, 109, rfl⟩
abbrev cc13_stg4_0 : Ref sig .tc := ⟨.vmem, 110, rfl⟩
abbrev cc13_stg4_1 : Ref sig .tc := ⟨.vmem, 111, rfl⟩
abbrev cc13_stg5_0 : Ref sig .tc := ⟨.vmem, 112, rfl⟩
abbrev cc13_stg5_1 : Ref sig .tc := ⟨.vmem, 113, rfl⟩
abbrev cc13_stg6_0 : Ref sig .tc := ⟨.vmem, 114, rfl⟩
abbrev cc13_stg6_1 : Ref sig .tc := ⟨.vmem, 115, rfl⟩
abbrev cc13_stg7_0 : Ref sig .tc := ⟨.vmem, 116, rfl⟩
abbrev cc13_stg7_1 : Ref sig .tc := ⟨.vmem, 117, rfl⟩
abbrev cc13_stg8_0 : Ref sig .tc := ⟨.vmem, 118, rfl⟩
abbrev cc13_stg8_1 : Ref sig .tc := ⟨.vmem, 119, rfl⟩
abbrev cc13_stg9_0 : Ref sig .tc := ⟨.vmem, 120, rfl⟩
abbrev cc13_stg10_0 : Ref sig .tc := ⟨.vmem, 121, rfl⟩
abbrev cc14_stg0_0 : Ref sig .tc := ⟨.vmem, 122, rfl⟩
abbrev cc14_stg0_1 : Ref sig .tc := ⟨.vmem, 123, rfl⟩
abbrev cc14_stg1_0 : Ref sig .tc := ⟨.vmem, 124, rfl⟩
abbrev cc14_stg2_0 : Ref sig .tc := ⟨.vmem, 125, rfl⟩
abbrev cc14_stg2_1 : Ref sig .tc := ⟨.vmem, 126, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem5_0 : DmaSem sig := 49
abbrev cc6_sem6_0 : DmaSem sig := 50
abbrev cc6_sem6_1 : DmaSem sig := 51
abbrev cc6_sem7_0 : DmaSem sig := 52
abbrev cc6_sem7_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem3_1 : DmaSem sig := 61
abbrev cc7_sem4_0 : DmaSem sig := 62
abbrev cc7_sem5_0 : DmaSem sig := 63
abbrev cc7_sem6_0 : DmaSem sig := 64
abbrev cc7_sem6_1 : DmaSem sig := 65
abbrev cc7_sem7_0 : DmaSem sig := 66
abbrev cc7_sem7_1 : DmaSem sig := 67
abbrev cc7_sem8_0 : DmaSem sig := 68
abbrev cc7_sem8_1 : DmaSem sig := 69
abbrev cc7_sem9_0 : DmaSem sig := 70
abbrev cc7_sem9_1 : DmaSem sig := 71
abbrev cc7_sem10_0 : DmaSem sig := 72
abbrev cc7_sem10_1 : DmaSem sig := 73
abbrev cc7_sem11_0 : DmaSem sig := 74
abbrev cc7_sem12_0 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem2_1 : DmaSem sig := 80
abbrev cc9_sem0_0 : DmaSem sig := 81
abbrev cc9_sem0_1 : DmaSem sig := 82
abbrev cc9_sem1_0 : DmaSem sig := 83
abbrev cc9_sem2_0 : DmaSem sig := 84
abbrev cc9_sem2_1 : DmaSem sig := 85
abbrev cc10_sem0_0 : DmaSem sig := 86
abbrev cc10_sem0_1 : DmaSem sig := 87
abbrev cc10_sem1_0 : DmaSem sig := 88
abbrev cc10_sem1_1 : DmaSem sig := 89
abbrev cc10_sem2_0 : DmaSem sig := 90
abbrev cc10_sem2_1 : DmaSem sig := 91
abbrev cc10_sem3_0 : DmaSem sig := 92
abbrev cc10_sem3_1 : DmaSem sig := 93
abbrev cc11_sem0_0 : DmaSem sig := 94
abbrev cc11_sem1_0 : DmaSem sig := 95
abbrev cc11_sem1_1 : DmaSem sig := 96
abbrev cc11_sem2_0 : DmaSem sig := 97
abbrev cc11_sem2_1 : DmaSem sig := 98
abbrev cc12_sem0_0 : DmaSem sig := 99
abbrev cc12_sem0_1 : DmaSem sig := 100
abbrev cc12_sem1_0 : DmaSem sig := 101
abbrev cc12_sem2_0 : DmaSem sig := 102
abbrev cc12_sem2_1 : DmaSem sig := 103
abbrev cc13_sem0_0 : DmaSem sig := 104
abbrev cc13_sem0_1 : DmaSem sig := 105
abbrev cc13_sem1_0 : DmaSem sig := 106
abbrev cc13_sem1_1 : DmaSem sig := 107
abbrev cc13_sem2_0 : DmaSem sig := 108
abbrev cc13_sem3_0 : DmaSem sig := 109
abbrev cc13_sem4_0 : DmaSem sig := 110
abbrev cc13_sem4_1 : DmaSem sig := 111
abbrev cc13_sem5_0 : DmaSem sig := 112
abbrev cc13_sem5_1 : DmaSem sig := 113
abbrev cc13_sem6_0 : DmaSem sig := 114
abbrev cc13_sem6_1 : DmaSem sig := 115
abbrev cc13_sem7_0 : DmaSem sig := 116
abbrev cc13_sem7_1 : DmaSem sig := 117
abbrev cc13_sem8_0 : DmaSem sig := 118
abbrev cc13_sem8_1 : DmaSem sig := 119
abbrev cc13_sem9_0 : DmaSem sig := 120
abbrev cc13_sem10_0 : DmaSem sig := 121
abbrev cc14_sem0_0 : DmaSem sig := 122
abbrev cc14_sem0_1 : DmaSem sig := 123
abbrev cc14_sem1_0 : DmaSem sig := 124
abbrev cc14_sem2_0 : DmaSem sig := 125
abbrev cc14_sem2_1 : DmaSem sig := 126

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2x1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x1024x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S256x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S512x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S512x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S512x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S512x1024 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S512x1024 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S512x1024 .bf16 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 1 → Memref sig .tc .vmem S1x1024 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x1024 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 1, 1], ![false, false, false]⟩

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1x4096x704 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S4096x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S704x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨2, ![4, 4], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc10_transform_3 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S704x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2x1x1024x704 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S2x1x1024x704 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨3, ![1, 8, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc11_transform_2 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage11_0 : Fin 1 → Memref sig .tc .vmem S4096x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false, true]

abbrev stage11_1 : Fin 2 → Memref sig .tc .vmem S1x4096x704 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1x1024x704 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨1, ![8], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8x512x704 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S8x1024x704 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_10 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S512x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S512x1024 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1024 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S512x1024 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S512x1024 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S512x1024 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 2 → Memref sig .tc .vmem S512x1024 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 2 → Memref sig .tc .vmem S512x1024 .bf16 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev stage13_9 : Fin 1 → Memref sig .tc .vmem S1x1024 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev stage13_10 : Fin 1 → Memref sig .tc .vmem S1x1024 .f32 := fun | 0 => Memref.whole cc13_stg10_0 | ⟨_ + 1, h⟩ => absurd h (Nat.not_lt.2 (Nat.le_add_left _ _))
abbrev sem13_10 : Fin 1 → DmaSem sig := fun | 0 => cc13_sem10_0 | ⟨_ + 1, h⟩ => absurd h (Nat.not_lt.2 (Nat.le_add_left _ _))
abbrev reads13_10 : Fin grid13.rank → Bool := ![false]

abbrev grid14 : Pipeline.Grid := ⟨3, ![4, 1, 1], ![false, false, false]⟩

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 2 → Memref sig .tc .vmem S1024x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false, true]

abbrev stage14_1 : Fin 1 → Memref sig .tc .vmem S1024x1024 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true, true]

abbrev stage14_2 : Fin 2 → Memref sig .tc .vmem S1024x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true, false]
-- ==== ReferenceIdeal.lean ====
abbrev S4096x1024 : Shape := ⟨2, ![4096, 1024]⟩
abbrev S4096x256 : Shape := ⟨2, ![4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x256 : Shape := ⟨2, ![1024, 256]⟩
abbrev S1024x2816 : Shape := ⟨2, ![1024, 2816]⟩
abbrev S5632x1024 : Shape := ⟨2, ![5632, 1024]⟩

abbrev nBuf : Space → Nat
  | .hbm => 250
  | .vmem => 0
  | .smem => 0
  | _ => 0

abbrev hbmTy0_0 (i : Nat) : BufTy := match i % 128 with
  | 0 => ⟨S4096x1024, .f32⟩
  | 1 => ⟨S4096x1024, .f32⟩
  | 2 => ⟨S4096x256, .f32⟩
  | 3 => ⟨S1024x1024, .f32⟩
  | 4 => ⟨S1024, .f32⟩
  | 5 => ⟨S1024, .f32⟩
  | 6 => ⟨S1024x5632, .f32⟩
  | 7 => ⟨S2816x1024, .f32⟩
  | 8 => ⟨S1024x1024, .f32⟩
  | 9 => ⟨S256x1024, .f32⟩
  | 10 => ⟨S1024, .f32⟩
  | 11 => ⟨S1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S4096x5632, .f32⟩
  | 55 => ⟨S4096x2816, .f32⟩
  | 56 => ⟨S4096x2816, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x1024, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S4096x1024, .f32⟩
  | 111 => ⟨S4096x1024, .f32⟩
  | 112 => ⟨S_, .f32⟩
  | 113 => ⟨S4096x1, .f32⟩
  | 114 => ⟨S4096x1, .f32⟩
  | 115 => ⟨S4096x1, .f32⟩
  | 116 => ⟨S4096x1, .f32⟩
  | 117 => ⟨S_, .f32⟩
  | 118 => ⟨S4096x1, .f32⟩
  | 119 => ⟨S4096x1, .f32⟩
  | 120 => ⟨S4096x1024, .f32⟩
  | 121 => ⟨S4096x1024, .f32⟩
  | 122 => ⟨S1x1024, .f32⟩
  | 123 => ⟨S4096x1024, .f32⟩
  | 124 => ⟨S4096x1024, .f32⟩
  | 125 => ⟨S1x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S_, .f32⟩
  | 5 => ⟨S1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S_, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1024, .f32⟩
  | 20 => ⟨S4096x1, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S4096x1024, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S4096x1024, .f32⟩
  | 50 => ⟨S1024x256, .f32⟩
  | 51 => ⟨S256x1024, .f32⟩
  | 52 => ⟨S4096x256, .f32⟩
  | 53 => ⟨S4096x1024, .f32⟩
  | 54 => ⟨S1024x1024, .f32⟩
  | 55 => ⟨S1024x1024, .f32⟩
  | 56 => ⟨S4096x1024, .f32⟩
  | 57 => ⟨S4096x1024, .f32⟩
  | 58 => ⟨S1024x2816, .f32⟩
  | 59 => ⟨S2816x1024, .f32⟩
  | 60 => ⟨S4096x2816, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S4096x2816, .f32⟩
  | 67 => ⟨S4096x5632, .f32⟩
  | 68 => ⟨S5632x1024, .f32⟩
  | 69 => ⟨S1024x5632, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S4096x1024, .f32⟩
  | 83 => ⟨S_, .f32⟩
  | 84 => ⟨S1024, .f32⟩
  | 85 => ⟨S4096x1024, .f32⟩
  | 86 => ⟨S_, .f32⟩
  | 87 => ⟨S4096, .f32⟩
  | 88 => ⟨S4096x1, .f32⟩
  | 89 => ⟨S4096x1024, .f32⟩
  | 90 => ⟨S4096x1024, .f32⟩
  | 91 => ⟨S4096x1, .f32⟩
  | 92 => ⟨S4096x1024, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S1024x1024, .f32⟩
  | 120 => ⟨S1024x1024, .f32⟩
  | 121 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v36_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v36_1 : Ref sig .tc := ⟨.hbm, 68, rfl⟩
abbrev main_v36_0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_11 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_v63 : Ref sig .tc := ⟨.hbm, 103, rfl⟩
abbrev main_cst_14 : Ref sig .tc := ⟨.hbm, 104, rfl⟩
abbrev main_v64 : Ref sig .tc := ⟨.hbm, 105, rfl⟩
abbrev main_v65 : Ref sig .tc := ⟨.hbm, 106, rfl⟩
abbrev main_cst_15 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_16 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_v86 : Ref sig .tc := ⟨.hbm, 131, rfl⟩
abbrev main_cst_19 : Ref sig .tc := ⟨.hbm, 132, rfl⟩
abbrev main_v87 : Ref sig .tc := ⟨.hbm, 133, rfl⟩
abbrev main_v88 : Ref sig .tc := ⟨.hbm, 134, rfl⟩
abbrev main_cst_20 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_21 : Ref sig .tc := ⟨.hbm, 140, rfl⟩
abbrev main_v93 : Ref sig .tc := ⟨.hbm, 141, rfl⟩
abbrev main_v94 : Ref sig .tc := ⟨.hbm, 142, rfl⟩
abbrev main_cst_22 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_23 : Ref sig .tc := ⟨.hbm, 150, rfl⟩
abbrev main_v101 : Ref sig .tc := ⟨.hbm, 151, rfl⟩
abbrev main_v102 : Ref sig .tc := ⟨.hbm, 152, rfl⟩
abbrev main_cst_24 : Ref sig .tc := ⟨.hbm, 153, rfl⟩
abbrev main_v103 : Ref sig .tc := ⟨.hbm, 154, rfl⟩
abbrev main_v104 : Ref sig .tc := ⟨.hbm, 155, rfl⟩
abbrev main_cst_25 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_26 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_cst_28 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_29 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call1_v0 : Ref sig .tc := ⟨.hbm, 191, rfl⟩
abbrev main_call1_v1 : Ref sig .tc := ⟨.hbm, 192, rfl⟩
abbrev main_call1_v2 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_30 : Ref sig .tc := ⟨.hbm, 200, rfl⟩
abbrev main_v141 : Ref sig .tc := ⟨.hbm, 201, rfl⟩
abbrev main_v142 : Ref sig .tc := ⟨.hbm, 202, rfl⟩
abbrev main_cst_31 : Ref sig .tc := ⟨.hbm, 203, rfl⟩
abbrev main_v143 : Ref sig .tc := ⟨.hbm, 204, rfl⟩
abbrev main_v144 : Ref sig .tc := ⟨.hbm, 205, rfl⟩
abbrev main_cst_32 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_33 : Ref sig .tc := ⟨.hbm, 211, rfl⟩
abbrev main_v149 : Ref sig .tc := ⟨.hbm, 212, rfl⟩
abbrev main_v150 : Ref sig .tc := ⟨.hbm, 213, rfl⟩
abbrev main_cst_34 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_35 : Ref sig .tc := ⟨.hbm, 221, rfl⟩
abbrev main_v157 : Ref sig .tc := ⟨.hbm, 222, rfl⟩
abbrev main_v158 : Ref sig .tc := ⟨.hbm, 223, rfl⟩
abbrev main_cst_36 : Ref sig .tc := ⟨.hbm, 224, rfl⟩
abbrev main_v159 : Ref sig .tc := ⟨.hbm, 225, rfl⟩
abbrev main_v160 : Ref sig .tc := ⟨.hbm, 226, rfl⟩
abbrev main_cst_37 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_38 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_cst_39 : Ref sig .tc := ⟨.hbm, 237, rfl⟩
abbrev main_v169 : Ref sig .tc := ⟨.hbm, 238, rfl⟩
abbrev main_v170 : Ref sig .tc := ⟨.hbm, 239, rfl⟩
abbrev main_cst_40 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_41 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩

abbrev nD : Nat := 1
abbrev τ : Topo := Topo.v7x

variable {F : FTy → Type} [FloatOps F]
-- ==== Kernel2.lean ====
abbrev S4096x1024 : Shape := ⟨2, ![4096, 1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x1536 : Shape := ⟨2, ![4096, 1536]⟩
abbrev S4096x32 : Shape := ⟨2, ![4096, 32]⟩
abbrev S4096x768 : Shape := ⟨2, ![4096, 768]⟩
abbrev S1024x1536 : Shape := ⟨2, ![1024, 1536]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x2304 : Shape := ⟨2, ![1024, 2304]⟩
abbrev S384x8x96 : Shape := ⟨3, ![384, 8, 96]⟩
abbrev S384x8x128 : Shape := ⟨3, ![384, 8, 128]⟩
abbrev S384x1024 : Shape := ⟨2, ![384, 1024]⟩
abbrev S4096x8x96 : Shape := ⟨3, ![4096, 8, 96]⟩
abbrev S4096x8x128 : Shape := ⟨3, ![4096, 8, 128]⟩
abbrev S1x384 : Shape := ⟨2, ![1, 384]⟩
abbrev S1x256 : Shape := ⟨2, ![1, 256]⟩
abbrev S4096x2304 : Shape := ⟨2, ![4096, 2304]⟩
abbrev S1024x1024 : Shape := ⟨2, ![1024, 1024]⟩
abbrev S1024x768 : Shape := ⟨2, ![1024, 768]⟩
abbrev S4096x384 : Shape := ⟨2, ![4096, 384]⟩
abbrev S2048x384 : Shape := ⟨2, ![2048, 384]⟩
abbrev S2048 : Shape := ⟨1, ![2048]⟩
abbrev S2048x1 : Shape := ⟨2, ![2048, 1]⟩
abbrev S4096x256 : Shape := ⟨2, ![4096, 256]⟩
abbrev S2048x256 : Shape := ⟨2, ![2048, 256]⟩
abbrev S1024x1920 : Shape := ⟨2, ![1024, 1920]⟩

abbrev nBuf : Space → Nat
  | .hbm => 85
  | .vmem => 62
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S4096x1536, .f32⟩
  | .hbm, ⟨7, _⟩ => ⟨S4096x32, .f32⟩
  | .hbm, ⟨8, _⟩ => ⟨S4096x768, .f32⟩
  | .hbm, ⟨9, _⟩ => ⟨S4096x1024, .f32⟩
  | .hbm, ⟨10, _⟩ => ⟨S4096x1024, .bf16⟩
  | .hbm, ⟨11, _⟩ => ⟨S1024x2208, .bf16⟩
  | .hbm, ⟨12, _⟩ => ⟨S4096x1536, .bf16⟩
  | .hbm, ⟨13, _⟩ => ⟨S4096x32, .bf16⟩
  | .hbm, ⟨14, _⟩ => ⟨S1024x1536, .bf16⟩
  | .hbm, ⟨15, _⟩ => ⟨S1024x384, .bf16⟩
  | .hbm, ⟨16, _⟩ => ⟨S1024x256, .bf16⟩
  | .hbm, ⟨17, _⟩ => ⟨S1024x32, .bf16⟩
  | .hbm, ⟨18, _⟩ => ⟨S_, .bf16⟩
  | .hbm, ⟨19, _⟩ => ⟨S1024x2304, .bf16⟩
  | .hbm, ⟨20, _⟩ => ⟨S_, .bf16⟩
  | .hbm, ⟨21, _⟩ => ⟨S1024x2304, .bf16⟩
  | .hbm, ⟨22, _⟩ => ⟨S1024x2304, .bf16⟩
  | .hbm, ⟨23, _⟩ => ⟨S_, .bf16⟩
  | .hbm, ⟨24, _⟩ => ⟨S1024x2304, .bf16⟩
  | .hbm, ⟨25, _⟩ => ⟨S1024x2304, .bf16⟩
  | .hbm, ⟨26, _⟩ => ⟨S_, .bf16⟩
  | .hbm, ⟨27, _⟩ => ⟨S1024x2304, .bf16⟩
  | .hbm, ⟨28, _⟩ => ⟨S1024x2304, .bf16⟩
  | .hbm, ⟨29, _⟩ => ⟨S384x768, .bf16⟩
  | .hbm, ⟨30, _⟩ => ⟨S384x8x96, .bf16⟩
  | .hbm, ⟨31, _⟩ => ⟨S_, .bf16⟩
  | .hbm, ⟨32, _⟩ => ⟨S384x8x128, .bf16⟩
  | .hbm, ⟨33, _⟩ => ⟨S384x1024, .bf16⟩
  | .hbm, ⟨34, _⟩ => ⟨S256x1024, .bf16⟩
  | .hbm, ⟨35, _⟩ => ⟨S4096x768, .bf16⟩
  | .hbm, ⟨36, _⟩ => ⟨S4096x8x96, .bf16⟩
  | .hbm, ⟨37, _⟩ => ⟨S_, .bf16⟩
  | .hbm, ⟨38, _⟩ => ⟨S4096x8x128, .bf16⟩
  | .hbm, ⟨39, _⟩ => ⟨S4096x1024, .bf16⟩
  | .hbm, ⟨40, _⟩ => ⟨S4096x1024, .bf16⟩
  | .hbm, ⟨41, _⟩ => ⟨S1x384, .f32⟩
  | .hbm, ⟨42, _⟩ => ⟨S1x256, .f32⟩
  | .hbm, ⟨43, _⟩ => ⟨S4096x2304, .f32⟩
  | .hbm, ⟨44, _⟩ => ⟨S4096x384, .bf16⟩
  | .hbm, ⟨45, _⟩ => ⟨S4096x256, .bf16⟩
  | .hbm, ⟨46, _⟩ => ⟨S4096x1024, .f32⟩
  | .hbm, ⟨47, _⟩ => ⟨S4096x1024, .f32⟩
  | .hbm, ⟨48, _⟩ => ⟨S4096x384, .f32⟩
  | .hbm, ⟨49, _⟩ => ⟨S4096x256, .f32⟩
  | .hbm, ⟨50, _⟩ => ⟨S4096x384, .bf16⟩
  | .hbm, ⟨51, _⟩ => ⟨S1x384, .f32⟩
  | .hbm, ⟨52, _⟩ => ⟨S4096x256, .bf16⟩
  | .hbm, ⟨53, _⟩ => ⟨S1x256, .f32⟩
  | .hbm, ⟨54, _⟩ => ⟨S_, .bf16⟩
  | .hbm, ⟨55, _⟩ => ⟨S4096x2304, .bf16⟩
  | .hbm, ⟨56, _⟩ => ⟨S_, .bf16⟩
  | .hbm, ⟨57, _⟩ => ⟨S4096x2304, .bf16⟩
  | .hbm, ⟨58, _⟩ => ⟨S4096x2304, .bf16⟩
  | .hbm, ⟨59, _⟩ => ⟨S_, .bf16⟩
  | .hbm, ⟨60, _⟩ => ⟨S4096x2304, .bf16⟩
  | .hbm, ⟨61, _⟩ => ⟨S4096x2304, .bf16⟩
  | .hbm, ⟨62, _⟩ => ⟨S_, .bf16⟩
  | .hbm, ⟨63, _⟩ => ⟨S4096x2304, .bf16⟩
  | .hbm, ⟨64, _⟩ => ⟨S4096x2304, .bf16⟩
  | .hbm, ⟨65, _⟩ => ⟨S1024x2304, .f32⟩
  | .hbm, ⟨66, _⟩ => ⟨S4096x1024, .f32⟩
  | .hbm, ⟨67, _⟩ => ⟨S1024x1920, .f32⟩
  | .hbm, ⟨68, _⟩ => ⟨S1024x256, .f32⟩
  | .hbm, ⟨69, _⟩ => ⟨S1024x32, .f32⟩
  | .hbm, ⟨70, _⟩ => ⟨S_, .f32⟩
  | .hbm, ⟨71, _⟩ => ⟨S1024x2208, .f32⟩
  | .hbm, ⟨72, _⟩ => ⟨S_, .f32⟩
  | .hbm, ⟨73, _⟩ => ⟨S1024x2208, .f32⟩
  | .hbm, ⟨74, _⟩ => ⟨S1024x2208, .f32⟩
  | .hbm, ⟨75, _⟩ => ⟨S_, .f32⟩
  | .hbm, ⟨76, _⟩ => ⟨S1024x2208, .f32⟩
  | .hbm, ⟨77, _⟩ => ⟨S1024x2208, .f32⟩
  | .hbm, ⟨78, _⟩ => ⟨S4096x1536, .f32⟩
  | .hbm, ⟨79, _⟩ => ⟨S4096x32, .f32⟩
  | .hbm, ⟨80, _⟩ => ⟨S4096x8x128, .f32⟩
  | .hbm, ⟨81, _⟩ => ⟨S4096x8x96, .f32⟩
  | .hbm, ⟨82, _⟩ => ⟨S4096x768, .f32⟩
  | .hbm, ⟨83, _⟩ => ⟨S384, .f32⟩
  | .hbm, ⟨84, _⟩ => ⟨S256, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S2048x384, .f32⟩
  | .local _ .vmem, ⟨7, _⟩ => ⟨S2048x384, .f32⟩
  | .local _ .vmem, ⟨8, _⟩ => ⟨S1x384, .f32⟩
  | .local _ .vmem, ⟨9, _⟩ => ⟨S2048x384, .bf16⟩
  | .local _ .vmem, ⟨10, _⟩ => ⟨S2048x384, .bf16⟩
  | .local _ .vmem, ⟨11, _⟩ => ⟨S2048x256, .f32⟩
  | .local _ .vmem, ⟨12, _⟩ => ⟨S2048x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S1024x384, .bf16⟩
  | .local _ .vmem, ⟨17, _⟩ => ⟨S1024x384, .bf16⟩
  | .local _ .vmem, ⟨18, _⟩ => ⟨S384x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x256, .bf16⟩
  | .local _ .vmem, ⟨22, _⟩ => ⟨S1024x256, .bf16⟩
  | .local _ .vmem, ⟨23, _⟩ => ⟨S256x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .bf16⟩
  | .local _ .vmem, ⟨27, _⟩ => ⟨S1024x1024, .bf16⟩
  | .local _ .vmem, ⟨28, _⟩ => ⟨S384x1024, .bf16⟩
  | .local _ .vmem, ⟨29, _⟩ => ⟨S1024x384, .f32⟩
  | .local _ .vmem, ⟨30, _⟩ => ⟨S1024x384, .f32⟩
  | .local _ .vmem, ⟨31, _⟩ => ⟨S1024x1024, .bf16⟩
  | .local _ .vmem, ⟨32, _⟩ => ⟨S1024x1024, .bf16⟩
  | .local _ .vmem, ⟨33, _⟩ => ⟨S256x1024, .bf16⟩
  | .local _ .vmem, ⟨34, _⟩ => ⟨S1024x256, .f32⟩
  | .local _ .vmem, ⟨35, _⟩ => ⟨S1024x256, .f32⟩
  | .local _ .vmem, ⟨36, _⟩ => ⟨S2048x384, .f32⟩
  | .local _ .vmem, ⟨37, _⟩ => ⟨S2048x384, .f32⟩
  | .local _ .vmem, ⟨38, _⟩ => ⟨S1x384, .f32⟩
  | .local _ .vmem, ⟨39, _⟩ => ⟨S2048x384, .f32⟩
  | .local _ .vmem, ⟨40, _⟩ => ⟨S2048x384, .f32⟩
  | .local _ .vmem, ⟨41, _⟩ => ⟨S2048x384, .bf16⟩
  | .local _ .vmem, ⟨42, _⟩ => ⟨S2048x384, .bf16⟩
  | .local _ .vmem, ⟨43, _⟩ => ⟨S1x384, .f32⟩
  | .local _ .vmem, ⟨44, _⟩ => ⟨S2048x256, .f32⟩
  | .local _ .vmem, ⟨45, _⟩ => ⟨S2048x256, .f32⟩
  | .local _ .vmem, ⟨46, _⟩ => ⟨S1x256, .f32⟩
  | .local _ .vmem, ⟨47, _⟩ => ⟨S2048x256, .f32⟩
  | .local _ .vmem, ⟨48, _⟩ => ⟨S2048x256, .f32⟩
  | .local _ .vmem, ⟨49, _⟩ => ⟨S2048x256, .bf16⟩
  | .local _ .vmem, ⟨50, _⟩ => ⟨S2048x256, .bf16⟩
  | .local _ .vmem, ⟨51, _⟩ => ⟨S1x256, .f32⟩
  | .local _ .vmem, ⟨52, _⟩ => ⟨S4096x1024, .bf16⟩
  | .local _ .vmem, ⟨53, _⟩ => ⟨S4096x768, .bf16⟩
  | .local _ .vmem, ⟨54, _⟩ => ⟨S4096x768, .bf16⟩
  | .local _ .vmem, ⟨55, _⟩ => ⟨S1024x768, .f32⟩
  | .local _ .vmem, ⟨56, _⟩ => ⟨S1024x768, .f32⟩
  | .local _ .vmem, ⟨57, _⟩ => ⟨S1024x2304, .bf16⟩
  | .local _ .vmem, ⟨58, _⟩ => ⟨S1024x2304, .bf16⟩
  | .local _ .vmem, ⟨59, _⟩ => ⟨S1024x2304, .bf16⟩
  | .local _ .vmem, ⟨60, _⟩ => ⟨S1024x1024, .f32⟩
  | .local _ .vmem, ⟨61, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v35_0 : Ref sig .tc := ⟨.hbm, 52, rfl⟩
abbrev main_v35_1 : Ref sig .tc := ⟨.hbm, 53, rfl⟩
abbrev main_cst_5 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc7_stg3_0 : Ref sig .tc := ⟨.vmem, 41, rfl⟩
abbrev cc7_stg3_1 : Ref sig .tc := ⟨.vmem, 42, rfl⟩
abbrev cc7_stg4_0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc8_stg3_0 : Ref sig .tc := ⟨.vmem, 49, rfl⟩
abbrev cc8_stg3_1 : Ref sig .tc := ⟨.vmem, 50, rfl⟩
abbrev cc8_stg4_0 : Ref sig .tc := ⟨.vmem, 51, rfl⟩
abbrev cc9_stg0_0 : Ref sig .tc := ⟨.vmem, 52, rfl⟩
abbrev cc9_stg1_0 : Ref sig .tc := ⟨.vmem, 53, rfl⟩
abbrev cc9_stg1_1 : Ref sig .tc := ⟨.vmem, 54, rfl⟩
abbrev cc9_stg2_0 : Ref sig .tc := ⟨.vmem, 55, rfl⟩
abbrev cc9_stg2_1 : Ref sig .tc := ⟨.vmem, 56, rfl⟩
abbrev cc10_stg0_0 : Ref sig .tc := ⟨.vmem, 57, rfl⟩
abbrev cc10_stg0_1 : Ref sig .tc := ⟨.vmem, 58, rfl⟩
abbrev cc10_stg1_0 : Ref sig .tc := ⟨.vmem, 59, rfl⟩
abbrev cc10_stg2_0 : Ref sig .tc := ⟨.vmem, 60, rfl⟩
abbrev cc10_stg2_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem2_1 : DmaSem sig := 40
abbrev cc7_sem3_0 : DmaSem sig := 41
abbrev cc7_sem3_1 : DmaSem sig := 42
abbrev cc7_sem4_0 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc8_sem3_0 : DmaSem sig := 49
abbrev cc8_sem3_1 : DmaSem sig := 50
abbrev cc8_sem4_0 : DmaSem sig := 51
abbrev cc9_sem0_0 : DmaSem sig := 52
abbrev cc9_sem1_0 : DmaSem sig := 53
abbrev cc9_sem1_1 : DmaSem sig := 54
abbrev cc9_sem2_0 : DmaSem sig := 55
abbrev cc9_sem2_1 : DmaSem sig := 56
abbrev cc10_sem0_0 : DmaSem sig := 57
abbrev cc10_sem0_1 : DmaSem sig := 58
abbrev cc10_sem1_0 : DmaSem sig := 59
abbrev cc10_sem2_0 : DmaSem sig := 60
abbrev cc10_sem2_1 : DmaSem sig := 61

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![2], ![false]⟩

def cc1_transform_0 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c8_i32 : BitVec 32 := 8#32
  let c0_i32 : BitVec 32 := 0#32
  ![arg0.toNat, c8_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S384x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S384x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x384 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S256x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![2], ![false]⟩

def cc7_transform_0 (i : grid7.Coords) : Fin 2 → Nat :=
  let arg0 : BitVec 32 := BitVec.ofNat 32 (i 0).val
  let c4_i32 : BitVec 32 := 4#32
  let c0_i32 : BitVec 32 := 0#32
  ![arg0.toNat, c4_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2048x384 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x384 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2048x384 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2048x384 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![2], ![false]⟩

def cc8_transform_0 (i : grid8.Coords) : Fin 2 → Nat :=
  let arg0 : BitVec 32 := BitVec.ofNat 32 (i 0).val
  let c8_i32 : BitVec 32 := 8#32
  let c0_i32 : BitVec 32 := 0#32
  ![arg0.toNat, c8_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2048x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2048x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2048x256 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨3, ![1, 3, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 2 → Memref sig .tc .vmem S4096x768 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x768 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x2304 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x2304 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference2Ideal.lean ====
abbrev S4096x1024 : Shape := ⟨2, ![4096, 1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x1536 : Shape := ⟨2, ![4096, 1536]⟩
abbrev S4096x32 : Shape := ⟨2, ![4096, 32]⟩
abbrev S4096x768 : Shape := ⟨2, ![4096, 768]⟩
abbrev S4096x2208 : Shape := ⟨2, ![4096, 2208]⟩
abbrev S4096x384 : Shape := ⟨2, ![4096, 384]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩
abbrev S1024x256 : Shape := ⟨2, ![1024, 256]⟩
abbrev S768x384 : Shape := ⟨2, ![768, 384]⟩
abbrev S2208x1024 : Shape := ⟨2, ![2208, 1024]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S4096x1536, .f32⟩
  | .hbm, ⟨7, _⟩ => ⟨S4096x32, .f32⟩
  | .hbm, ⟨8, _⟩ => ⟨S4096x768, .f32⟩
  | .hbm, ⟨9, _⟩ => ⟨S4096x1024, .f32⟩
  | .hbm, ⟨10, _⟩ => ⟨S4096x2208, .f32⟩
  | .hbm, ⟨11, _⟩ => ⟨S4096x1536, .f32⟩
  | .hbm, ⟨12, _⟩ => ⟨S4096x384, .f32⟩
  | .hbm, ⟨13, _⟩ => ⟨S4096x256, .f32⟩
  | .hbm, ⟨14, _⟩ => ⟨S4096x32, .f32⟩
  | .hbm, ⟨15, _⟩ => ⟨S4096x384, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x384, .f32⟩
  | .hbm, ⟨31, _⟩ => ⟨S4096x384, .f32⟩
  | .hbm, ⟨32, _⟩ => ⟨S1x384, .f32⟩
  | .hbm, ⟨33, _⟩ => ⟨S4096x384, .f32⟩
  | .hbm, ⟨34, _⟩ => ⟨S4096x384, .f32⟩
  | .hbm, ⟨35, _⟩ => ⟨S4096x768, .f32⟩
  | .hbm, ⟨36, _⟩ => ⟨S4096x256, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x256, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S4096x1024, .f32⟩
  | .hbm, ⟨57, _⟩ => ⟨S1024x256, .f32⟩
  | .hbm, ⟨58, _⟩ => ⟨S256x1024, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S256, .f32⟩
  | .hbm, ⟨63, _⟩ => ⟨S1x256, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S256, .f32⟩
  | .hbm, ⟨68, _⟩ => ⟨S4096x256, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x256, .f32⟩
  | .hbm, ⟨73, _⟩ => ⟨S4096x256, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S768x384, .f32⟩
  | .hbm, ⟨86, _⟩ => ⟨S384x768, .f32⟩
  | .hbm, ⟨87, _⟩ => ⟨S4096x384, .f32⟩
  | .hbm, ⟨88, _⟩ => ⟨S4096x384, .f32⟩
  | .hbm, ⟨89, _⟩ => ⟨S_, .f32⟩
  | .hbm, ⟨90, _⟩ => ⟨S384, .f32⟩
  | .hbm, ⟨91, _⟩ => ⟨S1x384, .f32⟩
  | .hbm, ⟨92, _⟩ => ⟨S4096x384, .f32⟩
  | .hbm, ⟨93, _⟩ => ⟨S4096x384, .f32⟩
  | .hbm, ⟨94, _⟩ => ⟨S_, .f32⟩
  | .hbm, ⟨95, _⟩ => ⟨S384, .f32⟩
  | .hbm, ⟨96, _⟩ => ⟨S4096x384, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x384, .f32⟩
  | .hbm, ⟨101, _⟩ => ⟨S4096x384, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x384, .f32⟩
  | .hbm, ⟨109, _⟩ => ⟨S4096x384, .f32⟩
  | .hbm, ⟨110, _⟩ => ⟨S4096x384, .f32⟩
  | .hbm, ⟨111, _⟩ => ⟨S4096x384, .f32⟩
  | .hbm, ⟨112, _⟩ => ⟨S4096x384, .f32⟩
  | .hbm, ⟨113, _⟩ => ⟨S4096x2208, .f32⟩
  | .hbm, ⟨114, _⟩ => ⟨S2208x1024, .f32⟩
  | .hbm, ⟨115, _⟩ => ⟨S1024x2208, .f32⟩
  | .hbm, ⟨116, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== Proof.ProjRun.lean ====
/-
  The second program's run: it ends, nothing faults, every counter is zero again, and every buffer holds what the last boundary of
  the generated fold (`W14`) says.
-/
module

public import proofs.«01_k».proof.Defs
public import proofs.«01_k».proof.Proof.Gen.Kernel2Ideal.Frame

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel ends with every buffer at the fold's last contents. -/
theorem run_main : θ_run defs (onTc (τ := τ) (main (F := F))) ⟨m, fun _ => 0, ρ⟩ (fun r =>
    (∀ c : Dev nD, ∀ b ∈ Pipeline.ucRefs τ sig, r.2.mem (((c : Thread nD τ)).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

/-- A memory at the fold's last contents has the arguments as launched. -/
theorem args_kept {s : (ℓ : Loc nD τ sig) → Buf (Elt F) ℓ} (c : Dev nD)
    (h : ∀ b ∈ Pipeline.ucRefs τ sig, s (((c : Thread nD τ)).1, b) = W14 m ρ c b) :
      s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9) :=
  ⟨(h _ (mem_uc main_arg0 (by decide))).trans (W14_main_arg0 m ρ c),
    (h _ (mem_uc main_arg1 (by decide))).trans (W14_main_arg1 m ρ c),
    (h _ (mem_uc main_arg2 (by decide))).trans (W14_main_arg2 m ρ c),
    (h _ (mem_uc main_arg3 (by decide))).trans (W14_main_arg3 m ρ c),
    (h _ (mem_uc main_arg4 (by decide))).trans (W14_main_arg4 m ρ c),
    (h _ (mem_uc main_arg5 (by decide))).trans (W14_main_arg5 m ρ c),
    (h _ (mem_uc main_arg6 (by decide))).trans (W14_main_arg6 m ρ c),
    (h _ (mem_uc main_arg7 (by decide))).trans (W14_main_arg7 m ρ c),
    (h _ (mem_uc main_arg8 (by decide))).trans (W14_main_arg8 m ρ c),
    (h _ (mem_uc main_arg9 (by decide))).trans (W14_main_arg9 m ρ c)⟩

end Cert.Proj

end
-- ==== Proof.Spec.lean ====
/-
  The part of one layer that follows the mixers, and its gradient, as formulas over extended reals.

  `Args` holds the thirteen argument arrays.  Each definition on it is one intermediate array of the layer, forward
  first (`mix` … `Y`), then backward (`D2` … `D1`).  Both programs are compared with these formulas: the reference
  entry by entry (Proof/RefRead.lean), the kernel call by call (Proof/Call0.lean … Proof/Call14.lean, Proof/Chain.lean).
-/
module

public import Idealize.ShloMosaic.Lib.Pointwise

@[expose] public section

set_option maxRecDepth 16384

noncomputable section

namespace Cert.Spec

open Idealize.ShloMosaic

/-- A matrix of extended reals, indexed as the programs' arrays are. -/
abbrev Mat (m n : ℕ) := Shape.Idx ⟨2, ![m, n]⟩ → EReal
/-- A vector of extended reals. -/
abbrev Row (n : ℕ) := Shape.Idx ⟨1, ![n]⟩ → EReal

/-! ## Constants: the patterns both programs print -/

def cAlpha : EReal := Ideal.ofBits .f32 0x3FB504F3#32
def cN : EReal := Ideal.ofBits .f32 0x44800000#32
def cEps : EReal := Ideal.ofBits .f32 0x3727C5AC#32
def cHalf : EReal := Ideal.ofBits .f32 0xBF000000#32
def cTwo : EReal := Ideal.ofBits .f32 0x40000000#32

/-! ## Products -/

variable {m k n : ℕ}

/-- `X @ Y`. -/
def mm (X : Mat m k) (Y : Mat k n) : Mat m n := fun i => ∑ l : Fin k, X (ix2 (i 0) l) * Y (ix2 l (i 1))
/-- `X @ Y.T`. -/
def mmt (X : Mat m k) (Y : Mat n k) : Mat m n := fun i => ∑ l : Fin k, X (ix2 (i 0) l) * Y (ix2 (i 1) l)
/-- `X.T @ Y`. -/
def tmm (X : Mat k m) (Y : Mat k n) : Mat m n := fun i => ∑ l : Fin k, X (ix2 l (i 0)) * Y (ix2 l (i 1))

/-! ## Layer norm over rows -/

/-- The mean of row `r`. -/
def mean (X : Mat m n) (r : Fin m) : EReal := Ideal.div (∑ l : Fin n, X (ix2 r l)) cN
/-- The centred rows. -/
def cen (X : Mat m n) : Mat m n := fun i => X i - mean X (i 0)
/-- The variance of row `r` plus the layer norm's epsilon. -/
def ve (X : Mat m n) (r : Fin m) : EReal :=
  Ideal.div (∑ l : Fin n, cen X (ix2 r l) * cen X (ix2 r l)) cN + cEps
/-- The normalised rows. -/
def nrm (X : Mat m n) : Mat m n := fun i => cen X i * Ideal.rsqrt (ve X (i 0))
/-- The layer norm with scale `g` and offset `b`. -/
def ln (X : Mat m n) (g b : Fin n → EReal) : Mat m n := fun i => nrm X i * g (i 1) + b (i 1)

/-- The cotangent that reaches the centred rows directly. -/
def dA (X : Mat m n) (g : Fin n → EReal) (D : Mat m n) : Mat m n := fun i => (D i * g (i 1)) * Ideal.rsqrt (ve X (i 0))
/-- The cotangent of row `r`'s variance, over the row length. -/
def dq (X : Mat m n) (g : Fin n → EReal) (D : Mat m n) (r : Fin m) : EReal :=
  Ideal.div ((∑ l : Fin n, cen X (ix2 r l) * (D (ix2 r l) * g l)) * (cHalf * Ideal.div (Ideal.rsqrt (ve X r)) (ve X r))) cN
/-- The cotangent that reaches the centred rows through the variance. -/
def dB (X : Mat m n) (g : Fin n → EReal) (D : Mat m n) : Mat m n := fun i => dq X g D (i 0) * (cTwo * cen X i)
/-- The layer norm's gradient with respect to its input. -/
def lnD (X : Mat m n) (g : Fin n → EReal) (D : Mat m n) : Mat m n := fun i =>
  (dA X g D i + dB X g D i)
    + Ideal.div ((∑ l : Fin n, -dA X g D (ix2 (i 0) l)) + ∑ l : Fin n, -dB X g D (ix2 (i 0) l)) cN

/-- The kernel's form of `dA + dB`: the centred row's two equal contributions added one after the other. -/
def dE (X : Mat m n) (g : Fin n → EReal) (D : Mat m n) : Mat m n := fun i =>
  (dA X g D i + cen X i * dq X g D (i 0)) + dq X g D (i 0) * cen X i
/-- The kernel's form of `lnD`. -/
def lnK (X : Mat m n) (g : Fin n → EReal) (D : Mat m n) : Mat m n := fun i =>
  dE X g D i + Ideal.div (∑ l : Fin n, -dE X g D (ix2 (i 0) l)) cN

/-- The gradient of the layer norm's scale. -/
def lnDg (X D : Mat m n) : Row n := fun j => ∑ r : Fin m, nrm X (ix2 r (j 0)) * D (ix2 r (j 0))
/-- The gradient of the layer norm's offset. -/
def lnDb (D : Mat m n) : Row n := fun j => ∑ r : Fin m, D (ix2 r (j 0))

/-! ## The gates -/

/-- The logistic function. -/
def sg (x : EReal) : EReal := Ideal.div 1 (1 + Ideal.exp (-x))
/-- The cotangent of SwiGLU's gate: `ds` is the cotangent of `silu gate`. -/
def dsilu (ds gate : EReal) : EReal := ds * sg gate + (gate * ds) * (sg gate * (1 - sg gate))
/-- The kernel's form of `dsilu`. -/
def dsiluK (ds gate : EReal) : EReal := ds * ((sg gate + gate * sg gate) - (gate * sg gate) * sg gate)
/-- The cotangent of a logistic gate's argument. -/
def dsg (d x : EReal) : EReal := d * (sg x * (1 - sg x))
/-- The kernel's form of `dsg`. -/
def dsgK (d x : EReal) : EReal :=
  -((-(d * Ideal.div 1 ((1 + Ideal.exp (-x)) * (1 + Ideal.exp (-x))))) * Ideal.exp (-x))

/-! ## The layer -/

/-- The argument arrays. -/
structure Args where
  h : Mat 4096 1024
  cat : Mat 4096 1024
  p : Mat 4096 256
  wo : Mat 1024 1024
  g1 : Row 1024
  b1 : Row 1024
  wgu : Mat 1024 5632
  wd : Mat 2816 1024
  wpg : Mat 1024 1024
  wpp : Mat 256 1024
  g2 : Row 1024
  b2 : Row 1024
  dy : Mat 4096 1024

namespace Args

variable (a : Args)

def mix : Mat 4096 1024 := mm a.cat a.wo
/-- What the first layer norm takes. -/
def X1 : Mat 4096 1024 := fun i => cAlpha * a.h i + a.mix i
def H1 : Mat 4096 1024 := ln a.X1 (fun j => a.g1 (ix1 j)) (fun j => a.b1 (ix1 j))
def GU : Mat 4096 5632 := mm a.H1 a.wgu
def gate : Mat 4096 2816 := fun i => a.GU (ix2 (i 0) ⟨(i 1).val, Nat.lt_trans (i 1).isLt (by decide)⟩)
def up : Mat 4096 2816 := fun i => a.GU (ix2 (i 0) ⟨2816 + (i 1).val, Nat.add_lt_add_left (i 1).isLt 2816⟩)
def act : Mat 4096 2816 := fun i => (a.gate i * sg (a.gate i)) * a.up i
def FF : Mat 4096 1024 := mm a.act a.wd
def PG : Mat 4096 1024 := mm a.H1 a.wpg
def PP : Mat 4096 1024 := mm a.p a.wpp
/-- What the second layer norm takes. -/
def X2 : Mat 4096 1024 := fun i => (cAlpha * a.H1 i + a.FF i) + sg (a.PG i) * a.PP i
def Y : Mat 4096 1024 := ln a.X2 (fun j => a.g2 (ix1 j)) (fun j => a.b2 (ix1 j))
/-- The cotangent of `X2`. -/
def D2 : Mat 4096 1024 := lnD a.X2 (fun j => a.g2 (ix1 j)) a.dy
/-- The cotangent of `PG`. -/
def DZ : Mat 4096 1024 := fun i => dsg (a.D2 i * a.PP i) (a.PG i)
/-- The cotangent of `act`. -/
def DA : Mat 4096 2816 := mmt a.D2 a.wd
def Dgate : Mat 4096 2816 := fun i => dsilu (a.DA i * a.up i) (a.gate i)
def Dup : Mat 4096 2816 := fun i => a.DA i * (a.gate i * sg (a.gate i))
/-- The cotangent of `GU`. -/
def DGU : Mat 4096 5632 := fun i =>
  if h : (i 1).val < 2816 then a.Dgate (ix2 (i 0) ⟨(i 1).val, h⟩)
  else a.Dup (ix2 (i 0) ⟨(i 1).val - 2816, Nat.sub_lt_left_of_lt_add (Nat.le_of_not_lt h) (i 1).isLt⟩)
/-- The cotangent of `H1`. -/
def DH : Mat 4096 1024 := fun i => (cAlpha * a.D2 i + mmt a.DZ a.wpg i) + mmt a.DGU a.wgu i
/-- The cotangent of `X1`. -/
def D1 : Mat 4096 1024 := lnD a.X1 (fun j => a.g1 (ix1 j)) a.DH

end Args

end Cert.Spec

end
-- ==== Proof.ProjSpec.lean ====
/-
  Products over columns that one operand holds at places of their own: `Holds e A B` says that `B` has `A`'s column `j` at
  column `e j` and zeros in every column that is no `e j`. -/
module

public import proofs.«01_k».proof.Proof.Spec
public import Idealize.ShloMosaic.Lib.Pipeline.ValueKit
public import Idealize.ShloMosaic.Lib.Pointwise

@[expose] public section

set_option maxRecDepth 16384

noncomputable section

namespace Cert.Proj

open Idealize.ShloMosaic Cert.Spec

variable {m k n p : ℕ}

/-- `B` is `A` with column `j` moved to column `e j`, and zero in the other columns. -/
def Holds (e : Fin n → Fin p) (A : Mat m n) (B : Mat m p) : Prop :=
  (∀ (r : Fin m) (j : Fin n), B (ix2 r (e j)) = A (ix2 r j)) ∧ ∀ (r : Fin m) (q : Fin p), q ∉ Set.range e → B (ix2 r q) = 0

theorem mm_holds {e : Fin n → Fin p} {A : Mat k n} {B : Mat k p} (h : Holds e A B) (X : Mat m k) (r : Fin m) (j : Fin n) :
    mm X B (ix2 r (e j)) = mm X A (ix2 r j) :=
  Finset.sum_congr rfl fun l _ => congrArg (X (ix2 r l) * ·) (h.1 l j)

theorem tmm_holds {e : Fin n → Fin p} {A : Mat k n} {B : Mat k p} (h : Holds e A B) (X : Mat k m) (r : Fin m) (j : Fin n) :
    tmm X B (ix2 r (e j)) = tmm X A (ix2 r j) :=
  Finset.sum_congr rfl fun l _ => congrArg (X (ix2 l r) * ·) (h.1 l j)

/-- Contracted over the moved columns, the two arrays give the product of the originals. -/
theorem mmt_holds {e : Fin n → Fin p} (he : Function.Injective e) {A : Mat m n} {B : Mat m p} {A' : Mat k n} {B' : Mat k p}
    (h : Holds e A B) (h' : Holds e A' B') : mmt B B' = mmt A A' := by
  funext i
  refine (Fintype.sum_of_injective e he _ _ (fun q hq => ?_) fun j => ?_).symm
  · exact (congrArg (· * B' (ix2 (i 1) q)) (h.2 (i 0) q hq)).trans (zero_mul _)
  · exact (congrArg₂ (· * ·) (h.1 (i 0) j) (h'.1 (i 1) j)).symm

/-- Where the projection's buffer holds column `j` of `w_in`. -/
def inCol (j : Fin 2208) : Fin 2304 :=
  ⟨if j.val < 1920 then j.val else if j.val < 2176 then j.val + 128 else j.val - 192, by split_ifs <;> omega⟩

theorem inCol_inj : Function.Injective inCol := fun a b h => by
  have h := congrArg Fin.val h
  simp only [inCol] at h
  apply Fin.ext
  split_ifs at h <;> omega

/-- Where a head-padded array holds column `j`: heads of 96 columns lie 128 apart. -/
def headCol (j : Fin 768) : Fin 1024 := ⟨j.val / 96 * 128 + j.val % 96, by omega⟩

theorem headCol_inj : Function.Injective headCol := fun a b h => by
  have h := congrArg Fin.val h
  simp only [headCol] at h
  apply Fin.ext
  omega

/-- Entry `(r, q)` of `place A`. -/
def placeAt (A : Mat m 2208) (r : Fin m) (q : Fin 2304) : EReal :=
  if h : q.val < 1920 then A (ix2 r ⟨q.val, by omega⟩)
  else if q.val < 1984 then 0
  else if h : q.val < 2016 then A (ix2 r ⟨q.val + 192, by omega⟩)
  else if q.val < 2048 then 0
  else A (ix2 r ⟨q.val - 128, by omega⟩)

/-- An array with the columns of `w_in`, its columns as the projection's buffer holds them. -/
def place (A : Mat m 2208) : Mat m 2304 := fun i => placeAt A (i 0) (i 1)

theorem holds_place (A : Mat m 2208) : Holds inCol A (place A) := by
  constructor
  · intro r j
    have hj := j.isLt
    have hv : (inCol j).val = if j.val < 1920 then j.val else if j.val < 2176 then j.val + 128 else j.val - 192 := rfl
    show placeAt A r (inCol j) = _
    unfold placeAt
    generalize inCol j = q at hv
    split_ifs at hv ⊢ <;> first | omega | exact congrArg A (congrArg (ix2 r) (Fin.ext (by simp only; omega)))
  · intro r q hq
    show placeAt A r q = 0
    unfold placeAt
    have hn : ∀ j, inCol j ≠ q := fun j hj => hq ⟨j, hj⟩
    have hql := q.isLt
    split_ifs with h1 h2 h3 h4
    · exact absurd (Fin.ext (by simp only [inCol]; split_ifs; rfl)) (hn ⟨q.val, by omega⟩)
    · rfl
    · exact absurd (Fin.ext (by simp only [inCol]; split_ifs <;> omega)) (hn ⟨q.val + 192, by omega⟩)
    · rfl
    · exact absurd (Fin.ext (by simp only [inCol]; split_ifs <;> omega)) (hn ⟨q.val - 128, by omega⟩)

/-- Entry `(r, q)` of `padHeads A`. -/
def padAt (A : Mat m 768) (r : Fin m) (q : Fin 1024) : EReal :=
  if h : q.val % 128 < 96 then A (ix2 r ⟨q.val / 128 * 96 + q.val % 128, by omega⟩) else 0

/-- An array whose heads of 96 columns are padded to 128. -/
def padHeads (A : Mat m 768) : Mat m 1024 := fun i => padAt A (i 0) (i 1)

theorem holds_padHeads (A : Mat m 768) : Holds headCol A (padHeads A) := by
  constructor
  · intro r j
    have hj := j.isLt
    have hv : (headCol j).val = j.val / 96 * 128 + j.val % 96 := rfl
    show padAt A r (headCol j) = _
    unfold padAt
    generalize headCol j = q at hv
    split_ifs
    · exact congrArg A (congrArg (ix2 r) (Fin.ext (by simp only; omega)))
    · omega
  · intro r q hq
    show padAt A r q = 0
    unfold padAt
    have hn : ∀ j, headCol j ≠ q := fun j hj => hq ⟨j, hj⟩
    have hql := q.isLt
    split_ifs with h1
    · exact absurd (Fin.ext (by simp only [headCol]; omega)) (hn ⟨q.val / 128 * 96 + q.val % 128, by omega⟩)
    · rfl

end Cert.Proj

end
-- ==== Proof.ProjNorm.lean ====
/-
  The latent attention's norm of a row and its gradient, as formulas over extended reals: `c` is the row's length as the
  programs write it.
-/
module

public import proofs.«01_k».proof.Proof.Spec
public import proofs.«01_k».proof.Proof.ProjSpec

@[expose] public section

noncomputable section

namespace Cert.Proj

open Idealize.ShloMosaic Cert.Spec

/-- The norm's epsilon. -/
def cRms : EReal := Ideal.ofBits .f32 0x358637BD#32
def c384 : EReal := Ideal.ofBits .f32 0x43C00000#32
def c256 : EReal := Ideal.ofBits .f32 0x43800000#32

section defs

variable {m n : ℕ} (c : EReal) (X : Mat m n) (g : Fin n → EReal) (D : Mat m n)

/-- The mean square of row `r` plus the epsilon. -/
def ms (r : Fin m) : EReal := Ideal.div (∑ l : Fin n, X (ix2 r l) * X (ix2 r l)) c + cRms
/-- The rows over their root mean squares. -/
def unit : Mat m n := fun i => X i * Ideal.rsqrt (ms c X (i 0))
/-- The norm with gain `g`. -/
def rms : Mat m n := fun i => unit c X i * g (i 1)
/-- The cotangent of the mean square of row `r`, over the row's length. -/
def dms (r : Fin m) : EReal :=
  Ideal.div ((∑ l : Fin n, X (ix2 r l) * (D (ix2 r l) * g l)) * (cHalf * Ideal.div (Ideal.rsqrt (ms c X r)) (ms c X r))) c
/-- The cotangent of `X` where the norm's is `D`. -/
def rmsBack : Mat m n := fun i =>
  ((D i * g (i 1)) * Ideal.rsqrt (ms c X (i 0)) + X i * dms c X g D (i 0)) + dms c X g D (i 0) * X i
/-- The cotangent of the gain. -/
def rmsDg (j : Fin n) : EReal := ∑ r : Fin m, unit c X (ix2 r j) * D (ix2 r j)

/-- The columns of `P` from column `a` on. -/
def cols {p : ℕ} (a : ℕ) (h : a + n ≤ p) (P : Mat m p) : Mat m n := fun i => P (ix2 (i 0) ⟨a + (i 1).val, by have := (i 1).isLt; change (i 1).val < n at this; omega⟩)

end defs

/-! ## Rows alone -/

variable {m m' n : ℕ} {c : EReal} {X D : Mat m n} {X' D' : Mat m' n} {g g' : Fin n → EReal} {r : Fin m} {r' : Fin m'}

theorem ms_row (h : ∀ l, X (ix2 r l) = X' (ix2 r' l)) : ms c X r = ms c X' r' := by
  simp only [ms, h]

theorem unit_row (h : ∀ l, X (ix2 r l) = X' (ix2 r' l)) (l : Fin n) : unit c X (ix2 r l) = unit c X' (ix2 r' l) :=
  congrArg₂ (· * Ideal.rsqrt ·) (h l) (ms_row h)

theorem rms_row (h : ∀ l, X (ix2 r l) = X' (ix2 r' l)) (hg : ∀ l, g l = g' l) (l : Fin n) :
    rms c X g (ix2 r l) = rms c X' g' (ix2 r' l) :=
  congrArg₂ (· * ·) (unit_row h l) (hg l)

theorem rmsBack_row (h : ∀ l, X (ix2 r l) = X' (ix2 r' l)) (hg : ∀ l, g l = g' l) (hD : ∀ l, D (ix2 r l) = D' (ix2 r' l))
    (l : Fin n) : rmsBack c X g D (ix2 r l) = rmsBack c X' g' D' (ix2 r' l) := by
  obtain rfl : g = g' := funext hg
  have hd : dms c X g D r = dms c X' g D' r' := by simp only [dms, h, hD, ms_row h]
  show ((D (ix2 r l) * g l) * Ideal.rsqrt (ms c X r) + X (ix2 r l) * dms c X g D r) + dms c X g D r * X (ix2 r l)
    = ((D' (ix2 r' l) * g l) * Ideal.rsqrt (ms c X' r') + X' (ix2 r' l) * dms c X' g D' r') + dms c X' g D' r' * X' (ix2 r' l)
  rw [h, hD, ms_row h, hd]

/-! ## The columns of the projection -/

theorem cols_holds {k m n : ℕ} {a b : ℕ} {ha : a + n ≤ 2304} {hb : b + n ≤ 2208} (X : Mat m k) (A : Mat k 2208)
    (h : ∀ j : Fin n, inCol ⟨b + j.val, by omega⟩ = ⟨a + j.val, by omega⟩) :
    cols a ha (mm X (place A)) = cols b hb (mm X A) := by
  funext i
  show mm X (place A) (ix2 (i 0) ⟨a + (i 1).val, _⟩) = mm X A (ix2 (i 0) ⟨b + (i 1).val, _⟩)
  exact (congrArg (fun q => mm X (place A) (ix2 (i 0) q)) (h (i 1)).symm).trans (mm_holds (holds_place A) X (i 0) _)

/-- Entry `(r, q)` of `join A B C D`. -/
def joinAt {m : ℕ} (A : Mat m 1536) (B : Mat m 384) (C : Mat m 256) (D : Mat m 32) (r : Fin m) (q : Fin 2208) : EReal :=
  if h : q.val < 1536 then A (ix2 r ⟨q.val, h⟩)
  else if h : q.val < 1920 then B (ix2 r ⟨q.val - 1536, by omega⟩)
  else if h : q.val < 2176 then C (ix2 r ⟨q.val - 1920, by omega⟩)
  else D (ix2 r ⟨q.val - 2176, by omega⟩)

/-- Four arrays side by side: the mixers' columns, the query latents, the key and value latents, the rotary key. -/
def join {m : ℕ} (A : Mat m 1536) (B : Mat m 384) (C : Mat m 256) (D : Mat m 32) : Mat m 2208 := fun i => joinAt A B C D (i 0) (i 1)

/-- The query latents, and the key and value latents. -/
def cq (h : Mat 4096 1024) (w : Mat 1024 2208) : Mat 4096 384 := cols 1536 (by decide) (mm h w)
def ckv (h : Mat 4096 1024) (w : Mat 1024 2208) : Mat 4096 256 := cols 1920 (by decide) (mm h w)

end Cert.Proj

end
-- ==== Proof.ProjJoin.lean ====
/- The host's join of the projection's cotangent: four padded arrays added. -/
module

public import proofs.«01_k».proof.Proof.Gen.Kernel2Ideal.Launch
public import proofs.«01_k».proof.Proof.ProjNorm
public import Idealize.ShloMosaic.Lib.Pipeline.ValueKit
public import Idealize.ShloMosaic.Lib.Pointwise

@[expose] public section

set_option maxRecDepth 16384

noncomputable section

namespace Cert.Proj

open Cert.Kernel2Ideal Cert.Kernel2Ideal.Gen Cert.Spec
open Idealize.ShloMosaic

set_option maxHeartbeats 2000000 in
/-- The four parts, each padded with zero columns to the projection's buffer and added, are the joined array placed. -/
theorem joined (A : FVec Ideal S4096x1536 .bf16) (B : FVec Ideal S4096x384 .bf16) (C : FVec Ideal S4096x256 .bf16) (D : FVec Ideal S4096x32 .bf16) :
    addf (addf (addf
          (pad S4096x2304 ![0, 0] ![0, 768] ![0, 0] A (constant S_ .bf16 0#16) pads_S4096x1536_S4096x2304_000_07680 h_S_)
          (pad S4096x2304 ![0, 1536] ![0, 384] ![0, 0] B (constant S_ .bf16 0#16) pads_S4096x384_S4096x2304_000_15363840 h_S_))
        (pad S4096x2304 ![0, 1984] ![0, 288] ![0, 0] D (constant S_ .bf16 0#16) pads_S4096x32_S4096x2304_000_19842880 h_S_))
      (pad S4096x2304 ![0, 2048] ![0, 0] ![0, 0] C (constant S_ .bf16 0#16) pads_S4096x256_S4096x2304_000_204800 h_S_)
    = place (join A B C D) := by
  funext i; idx_vars i
  show _ = placeAt _ i0 i1
  unfold placeAt
  show _ = dite _ (fun _ => joinAt A B C D i0 _) (fun _ => ite _ _ (dite _ (fun _ => joinAt A B C D i0 _) (fun _ => ite _ _ (joinAt A B C D i0 _))))
  unfold joinAt
  pointwise []
  split_ifs <;> first
    | omega
    | (simp only [add_zero, zero_add]
       first
         | done
         | rfl
         | exact congrArg (fun q => A (ix2 i0 q)) (Fin.ext (by simp only; omega))
         | exact congrArg (fun q => B (ix2 i0 q)) (Fin.ext (by simp only; omega))
         | exact congrArg (fun q => C (ix2 i0 q)) (Fin.ext (by simp only; omega))
         | exact congrArg (fun q => D (ix2 i0 q)) (Fin.ext (by simp only; omega)))

end Cert.Proj

end
-- ==== Proof.Blocks.lean ====
/-
  The kernel keeps the feed-forward's 2816 (or, gate and up together, 5632) columns as 4 (or 8) blocks of 704.  Here are
  the products over such blocks and their equality with the plain products.
-/
module

public import proofs.«01_k».proof.Proof.Spec

@[expose] public section

set_option maxRecDepth 16384

noncomputable section

namespace Cert.Spec

open Idealize.ShloMosaic

/-- Blocks of matrices. -/
abbrev T3 (n m w : ℕ) := Shape.Idx ⟨3, ![n, m, w]⟩ → EReal
/-- Blocks of gate and of up columns. -/
abbrev T4 := Shape.Idx ⟨4, ![2, 4, 4096, 704]⟩ → EReal

/-- The block that holds column `j`. -/
def cb {N : ℕ} (n : ℕ) (h : N = n * 704) (j : Fin N) : Fin n := ⟨j.val / 704, (Nat.div_lt_iff_lt_mul (by decide)).2 (h ▸ j.isLt)⟩
/-- Column `j`'s place in its block. -/
def cc {N : ℕ} (j : Fin N) : Fin 704 := ⟨j.val % 704, Nat.mod_lt _ (by decide)⟩
/-- The column at place `l` of block `b`. -/
def cj {N : ℕ} (n : ℕ) (h : N = n * 704) (b : Fin n) (l : Fin 704) : Fin N := ⟨b.val * 704 + l.val, by
  have := b.isLt; have := l.isLt; subst h; nlinarith⟩

/-- A matrix as blocks of columns. -/
def blk {m N : ℕ} (n : ℕ) (h : N = n * 704) (X : Mat m N) : T3 n m 704 := fun i => X (ix2 (i 1) (cj n h (i 0) (i 2)))

/-- `X.T @ Y`, `X` in blocks of columns. -/
def blkTmm (X : T3 4 4096 704) (Y : Mat 4096 1024) : Mat 2816 1024 := fun i =>
  ∑ l : Fin 4096, X (ix3 (cb 4 rfl (i 0)) l (cc (i 0))) * Y (ix2 l (i 1))
/-- `X.T @ Y`, `Y` and the result in blocks of columns. -/
def tmmBlk (X : Mat 4096 1024) (Y : T3 8 4096 704) : T3 8 1024 704 := fun i =>
  ∑ l : Fin 4096, X (ix2 l (i 1)) * Y (ix3 (i 0) l (i 2))
/-- `X @ Y`, `X` in blocks of columns. -/
def blkMm (X : T3 4 4096 704) (Y : Mat 2816 1024) : Mat 4096 1024 := fun i =>
  ∑ b : Fin 4, ∑ l : Fin 704, X (ix3 b (i 0) l) * Y (ix2 (cj 4 rfl b l) (i 1))
/-- `X @ Y.T`, both in blocks of columns. -/
def blkMmt (X : T3 8 4096 704) (Y : T3 8 1024 704) : Mat 4096 1024 := fun i =>
  ∑ b : Fin 8, ∑ l : Fin 704, X (ix3 b (i 0) l) * Y (ix3 b (i 1) l)
/-- The gate (first axis 0) and up (first axis 1) products in blocks of columns. -/
def guBlk (X : Mat 4096 1024) (Y : T3 8 1024 704) : T4 := fun i =>
  ∑ l : Fin 1024, X (ix2 (i 2) l) * Y (ix3 ⟨(i 0).val * 4 + (i 1).val, by have h0 : (i 0).val < 2 := (i 0).isLt; have h1 : (i 1).val < 4 := (i 1).isLt; omega⟩ l (i 3))
/-- SwiGLU of the gate and up blocks. -/
def actBlk (G : T4) : T3 4 4096 704 := fun i =>
  (G (ix4 0 (i 0) (i 1) (i 2)) * sg (G (ix4 0 (i 0) (i 1) (i 2)))) * G (ix4 1 (i 0) (i 1) (i 2))
/-- The cotangent of SwiGLU's result, one entry of a block. -/
def dactBlk (D : Mat 4096 1024) (Wd : Mat 2816 1024) (b : Fin 4) (r : Fin 4096) (c : Fin 704) : EReal :=
  ∑ l : Fin 1024, D (ix2 r l) * Wd (ix2 (cj 4 rfl b c) l)
/-- The cotangents of the gate and up blocks. -/
def dguBlk (D : Mat 4096 1024) (Wd : Mat 2816 1024) (G : T4) : T4 := fun i =>
  if (i 0).val = 0 then
    dsiluK (dactBlk D Wd (i 1) (i 2) (i 3) * G (ix4 1 (i 1) (i 2) (i 3))) (G (ix4 0 (i 1) (i 2) (i 3)))
  else dactBlk D Wd (i 1) (i 2) (i 3) * (G (ix4 0 (i 1) (i 2) (i 3)) * sg (G (ix4 0 (i 1) (i 2) (i 3))))

/-! ## The blocks' products are the matrices' -/

theorem cj_cb_cc {N n : ℕ} (h : N = n * 704) (j : Fin N) : cj n h (cb n h j) (cc j) = j :=
  Fin.ext (Nat.div_add_mod' j.val 704)

theorem blkTmm_eq (X : Mat 4096 2816) (Y : Mat 4096 1024) : blkTmm (blk 4 rfl X) Y = tmm X Y := by
  funext i
  exact Finset.sum_congr rfl fun l _ => congrArg (fun j => X (ix2 l j) * Y (ix2 l (i 1))) (cj_cb_cc (n := 4) rfl (i 0))

theorem blkMm_eq (X : Mat 4096 2816) (Y : Mat 2816 1024) : blkMm (blk 4 rfl X) Y = mm X Y := by
  funext i
  exact (Fin.sum_univ_tiles 4 704 rfl fun l => X (ix2 (i 0) l) * Y (ix2 l (i 1))).symm

theorem blkMmt_eq (X : Mat 4096 5632) (Y : Mat 1024 5632) : blkMmt (blk 8 rfl X) (blk 8 rfl Y) = mmt X Y := by
  funext i
  exact (Fin.sum_univ_tiles 8 704 rfl fun l => X (ix2 (i 0) l) * Y (ix2 (i 1) l)).symm

theorem tmmBlk_eq (X : Mat 4096 1024) (Y : Mat 4096 5632) : tmmBlk X (blk 8 rfl Y) = blk 8 rfl (tmm X Y) := rfl

end Cert.Spec

end
-- ==== Proof.ProjCalls.lean ====
/- The seven products of the second program, each as the product of the arrays its region reads. -/
module

public import proofs.«01_k».proof.Proof.Gen.Kernel2Ideal.Frame.Region0
public import proofs.«01_k».proof.Proof.Gen.Kernel2Ideal.Frame.Region3
public import proofs.«01_k».proof.Proof.Gen.Kernel2Ideal.Frame.Region4
public import proofs.«01_k».proof.Proof.Gen.Kernel2Ideal.Frame.Region5
public import proofs.«01_k».proof.Proof.Gen.Kernel2Ideal.Frame.Region6
public import proofs.«01_k».proof.Proof.Gen.Kernel2Ideal.Frame.Region9
public import proofs.«01_k».proof.Proof.Gen.Kernel2Ideal.Frame.Region10
public import proofs.«01_k».proof.Proof.Blocks
public import Idealize.ShloMosaic.Lib.Pipeline.ValueKit
public import Idealize.ShloMosaic.Lib.Pointwise

@[expose] public section

set_option maxRecDepth 16384

noncomputable section

namespace Cert.Proj

open Cert.Kernel2Ideal Cert.Kernel2Ideal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val / 3, 0] ∧ win0_1.index t = ![0, t.val % 3] ∧ win0_2.index t = ![t.val / 3, t.val % 3] :=
  (by decide +kernel : ∀ t : Fin grid0.N, _)

/-- The input projection. -/
theorem call0 (c : Dev nD) : (dat0 V c).arrAt 2 cfg0.N = mm (V c main_v0) (V c main_v14) := by
  refine (dat0 V c).arrAt_eq_of_covers 2 _ (by decide +kernel) fun t _ y => ?_
  blk_simp
  rw [after0_2]; frame_out
  pointwise [k0_pay1, mm]
  blk_point [iblk0, idx0 t]

theorem idx3 : ∀ t : Fin cfg3.N, win3_0.index t = ![t.val, 0] ∧ win3_1.index t = ![0, 0] ∧ win3_2.index t = ![t.val, 0] :=
  (by decide +kernel : ∀ t : Fin grid3.N, _)

/-- The queries. -/
theorem call3 (c : Dev nD) : (dat3 V c).arrAt 2 cfg3.N = mm (V c main_v28) (V c main_v18) := by
  refine (dat3 V c).arrAt_eq_of_covers 2 _ (by decide +kernel) fun t _ y => ?_
  blk_simp
  rw [after3_2]; frame_out
  pointwise [k3_pay1, mm]
  blk_point [iblk3, idx3 t]

theorem idx4 : ∀ t : Fin cfg4.N, win4_0.index t = ![t.val, 0] ∧ win4_1.index t = ![0, 0] ∧ win4_2.index t = ![t.val, 0] :=
  (by decide +kernel : ∀ t : Fin grid4.N, _)

/-- The keys and values. -/
theorem call4 (c : Dev nD) : (dat4 V c).arrAt 2 cfg4.N = mm (V c main_v29) (V c main_v19) := by
  refine (dat4 V c).arrAt_eq_of_covers 2 _ (by decide +kernel) fun t _ y => ?_
  blk_simp
  rw [after4_2]; frame_out
  pointwise [k4_pay1, mm]
  blk_point [iblk4, idx4 t]

theorem idx5 : ∀ t : Fin cfg5.N, win5_0.index t = ![t.val, 0] ∧ win5_1.index t = ![0, 0] ∧ win5_2.index t = ![t.val, 0] :=
  (by decide +kernel : ∀ t : Fin grid5.N, _)

/-- The cotangent of the normed query latents. -/
theorem call5 (c : Dev nD) : (dat5 V c).arrAt 2 cfg5.N = mmt (V c main_v23) (V c main_v18) := by
  refine (dat5 V c).arrAt_eq_of_covers 2 _ (by decide +kernel) fun t _ y => ?_
  blk_simp
  rw [after5_2]; frame_out
  pointwise [k5_pay1, mmt]
  blk_point [iblk5, idx5 t]

theorem idx6 : ∀ t : Fin cfg6.N, win6_0.index t = ![t.val, 0] ∧ win6_1.index t = ![0, 0] ∧ win6_2.index t = ![t.val, 0] :=
  (by decide +kernel : ∀ t : Fin grid6.N, _)

/-- The cotangent of the normed key and value latents. -/
theorem call6 (c : Dev nD) : (dat6 V c).arrAt 2 cfg6.N = mmt (V c main_v24) (V c main_v19) := by
  refine (dat6 V c).arrAt_eq_of_covers 2 _ (by decide +kernel) fun t _ y => ?_
  blk_simp
  rw [after6_2]; frame_out
  pointwise [k6_pay1, mmt]
  blk_point [iblk6, idx6 t]

theorem idx9 : ∀ t : Fin cfg9.N, win9_0.index t = ![0, 0] ∧ win9_1.index t = ![0, t.val] ∧ win9_2.index t = ![0, t.val] :=
  (by decide +kernel : ∀ t : Fin grid9.N, _)

/-- The weight gradient of the input projection. -/
theorem call9 (c : Dev nD) : (dat9 V c).arrAt 2 cfg9.N = tmm (V c main_v0) (V c main_v42) := by
  refine (dat9 V c).arrAt_eq_of_covers 2 _ (by decide +kernel) fun t _ y => ?_
  blk_simp
  rw [after9_2]; frame_out
  pointwise [k9_pay1, tmm]
  blk_point [iblk9, idx9 t]

theorem idx10 : ∀ t : Fin cfg10.N, win10_0.index t = ![t.val, 0] ∧ win10_1.index t = ![0, 0] ∧ win10_2.index t = ![t.val, 0] :=
  (by decide +kernel : ∀ t : Fin grid10.N, _)

/-- The input projection's cotangent of its input. -/
theorem call10 (c : Dev nD) : (dat10 V c).arrAt 2 cfg10.N = mmt (V c main_v42) (V c main_v14) := by
  refine (dat10 V c).arrAt_eq_of_covers 2 _ (by decide +kernel) fun t _ y => ?_
  blk_simp
  rw [after10_2]; frame_out
  pointwise [k10_pay1, mmt]
  blk_point [iblk10, idx10 t]

end Cert.Proj

end
-- ==== Proof.ProjNorms.lean ====
/- The latents' two norms and their gradients, each over the arrays its region reads. -/
module

public import proofs.«01_k».proof.Proof.Gen.Kernel2Ideal.Frame.Region1
public import proofs.«01_k».proof.Proof.Gen.Kernel2Ideal.Frame.Region2
public import proofs.«01_k».proof.Proof.Gen.Kernel2Ideal.Frame.Region7
public import proofs.«01_k».proof.Proof.Gen.Kernel2Ideal.Frame.Region8
public import proofs.«01_k».proof.Proof.ProjNorm
public import Idealize.ShloMosaic.Lib.Pipeline.ValueKit
public import Idealize.ShloMosaic.Lib.Pointwise

@[expose] public section

set_option maxRecDepth 16384

noncomputable section

namespace Cert.Proj

open Cert.Kernel2Ideal Cert.Kernel2Ideal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx1 : ∀ t : Fin cfg1.N, win1_0.index t = ![t.val, 4] ∧ win1_1.index t = ![0, 0] ∧ win1_2.index t = ![t.val, 0] :=
  (by decide +kernel : ∀ t : Fin grid1.N, _)

theorem pay1 (X : FVec Ideal S2048x384 .f32) (g : FVec Ideal S1x384 .f32) :
    k1_pay1 (F := Ideal) X g = rms c384 X (fun j => g (ix2 0 j)) := by
  funext i; idx_vars i
  pointwise [k1_pay1, rms, unit, ms, c384, cRms]

/-- A block of 2048 rows of the query latents. -/
abbrev xb1 (c : Dev nD) (t : Fin cfg1.N) : Mat 2048 384 := iblk1 V c 0 t
/-- The query latents. -/
abbrev xv1 (c : Dev nD) : Mat 4096 384 := cols 1536 (by decide) (V c main_v27 : Mat 4096 2304)

theorem rows1 (c : Dev nD) (t : Fin cfg1.N) (i : Fin 2048) (j : Fin 4096) (h : j.val = t.val * 2048 + i.val) (l : Fin 384) :
    xb1 V c t (ix2 i l) = xv1 V c (ix2 j l) := by
  unfold xb1 xv1 cols
  blk_point [iblk1, idx1 t]

theorem gain1 (c : Dev nD) (t : Fin cfg1.N) (l : Fin 384) : iblk1 V c 1 t (ix2 0 l) = V c main_v25 (ix2 0 l) := by
  blk_point [iblk1, idx1 t]

/-- The norm of the query latents. -/
theorem call1 (c : Dev nD) : (dat1 V c).arrAt 2 cfg1.N = rms c384 (xv1 V c) (fun j => V c main_v25 (ix2 0 j)) := by
  refine (dat1 V c).arrAt_eq_of_covers 2 _ (by decide +kernel) fun t _ y => ?_
  blk_simp
  generalize hz : ((View.whole main_v28).slice (win1_2.rect t)).emb y = z
  have h0 : (z 0).val = t.val * 2048 + (y 0).val := by rw [← hz]; blk_simp [idx1 t]
  have h1 : z = ix2 (z 0) (y 1) := (eq_ix2 z).trans (congrArg _ (Fin.ext (by rw [← hz]; blk_simp [idx1 t])))
  rw [after1_2]; frame_out
  rw [pay1, h1]
  exact (congrArg _ (eq_ix2 y)).trans (rms_row (fun l => rows1 V c t (y 0) (z 0) h0 l) (fun l => gain1 V c t l) (y 1))

theorem idx2 : ∀ t : Fin cfg2.N, win2_0.index t = ![t.val, 8] ∧ win2_1.index t = ![0, 0] ∧ win2_2.index t = ![t.val, 0] :=
  (by decide +kernel : ∀ t : Fin grid2.N, _)

theorem pay2 (X : FVec Ideal S2048x256 .f32) (g : FVec Ideal S1x256 .f32) :
    k2_pay1 (F := Ideal) X g = rms c256 X (fun j => g (ix2 0 j)) := by
  funext i; idx_vars i
  pointwise [k2_pay1, rms, unit, ms, c256, cRms]

/-- A block of 2048 rows of the key and value latents. -/
abbrev xb2 (c : Dev nD) (t : Fin cfg2.N) : Mat 2048 256 := iblk2 V c 0 t
/-- The key and value latents. -/
abbrev xv2 (c : Dev nD) : Mat 4096 256 := cols 2048 (by decide) (V c main_v27 : Mat 4096 2304)

theorem rows2 (c : Dev nD) (t : Fin cfg2.N) (i : Fin 2048) (j : Fin 4096) (h : j.val = t.val * 2048 + i.val) (l : Fin 256) :
    xb2 V c t (ix2 i l) = xv2 V c (ix2 j l) := by
  unfold xb2 xv2 cols
  blk_point [iblk2, idx2 t]

theorem gain2 (c : Dev nD) (t : Fin cfg2.N) (l : Fin 256) : iblk2 V c 1 t (ix2 0 l) = V c main_v26 (ix2 0 l) := by
  blk_point [iblk2, idx2 t]

/-- The norm of the key and value latents. -/
theorem call2 (c : Dev nD) : (dat2 V c).arrAt 2 cfg2.N = rms c256 (xv2 V c) (fun j => V c main_v26 (ix2 0 j)) := by
  refine (dat2 V c).arrAt_eq_of_covers 2 _ (by decide +kernel) fun t _ y => ?_
  blk_simp
  generalize hz : ((View.whole main_v29).slice (win2_2.rect t)).emb y = z
  have h0 : (z 0).val = t.val * 2048 + (y 0).val := by rw [← hz]; blk_simp [idx2 t]
  have h1 : z = ix2 (z 0) (y 1) := (eq_ix2 z).trans (congrArg _ (Fin.ext (by rw [← hz]; blk_simp [idx2 t])))
  rw [after2_2]; frame_out
  rw [pay2, h1]
  exact (congrArg _ (eq_ix2 y)).trans (rms_row (fun l => rows2 V c t (y 0) (z 0) h0 l) (fun l => gain2 V c t l) (y 1))

theorem idx7 : ∀ t : Fin cfg7.N, win7_0.index t = ![t.val, 4] ∧ win7_1.index t = ![0, 0] ∧ win7_2.index t = ![t.val, 0]
    ∧ win7_3.index t = ![t.val, 0] ∧ win7_4.index t = ![0, 0] :=
  (by decide +kernel : ∀ t : Fin grid7.N, _)

theorem pay7_ms (X : FVec Ideal S2048x384 .f32) : k7_pay5 (F := Ideal) X = fun i => ms c384 X (i 0) := by
  funext i; idx_vars i
  pointwise [k7_pay5, k7_pay3, ms, c384, cRms]

theorem pay7_back (X D : FVec Ideal S2048x384 .f32) (g : FVec Ideal S1x384 .f32) :
    k7_pay8 (F := Ideal) X g D = rmsBack c384 X (fun j => g (ix2 0 j)) D := by
  unfold k7_pay8 k7_pay6
  rw [pay7_ms]
  funext i; idx_vars i
  pointwise [k7_pay3, k7_pay4, rmsBack, dms, c384, cHalf, Finset.univ_unique, Finset.sum_singleton]

theorem pay7_dg (X D : FVec Ideal S2048x384 .f32) (A : FVec Ideal S1x384 .f32) (j : S1x384.Idx) :
    k7_pay2 (F := Ideal) (k7_pay7 X D) A j = A j + rmsDg c384 X D (j 1) := by
  unfold k7_pay2 k7_pay7 k7_pay6
  rw [pay7_ms]
  idx_vars j
  pointwise [k7_pay3, k7_pay4, rmsDg, unit]

theorem pay7_zero (j) : k7_pay1 (F := Ideal) j = 0 := by pointwise [k7_pay1]

/-- A block of 2048 rows of the query latents. -/
abbrev xb7 (c : Dev nD) (t : Fin cfg7.N) : Mat 2048 384 := iblk7 V c 0 t
/-- The query latents. -/
abbrev xv7 (c : Dev nD) : Mat 4096 384 := cols 1536 (by decide) (V c main_v27 : Mat 4096 2304)

theorem rows7 (c : Dev nD) (t : Fin cfg7.N) (i : Fin 2048) (j : Fin 4096) (h : j.val = t.val * 2048 + i.val) (l : Fin 384) :
    xb7 V c t (ix2 i l) = xv7 V c (ix2 j l) := by
  unfold xb7 xv7 cols
  blk_point [iblk7, idx7 t]

theorem gain7 (c : Dev nD) (t : Fin cfg7.N) (l : Fin 384) : iblk7 V c 1 t (ix2 0 l) = V c main_v25 (ix2 0 l) := by
  blk_point [iblk7, idx7 t]

/-- A block of 2048 rows of the norm's cotangent. -/
abbrev db7 (c : Dev nD) (t : Fin cfg7.N) : Mat 2048 384 := iblk7 V c 2 t
/-- The norm's cotangent. -/
abbrev dv7 (c : Dev nD) : Mat 4096 384 := V c main_v32

theorem cots7 (c : Dev nD) (t : Fin cfg7.N) (i : Fin 2048) (j : Fin 4096) (h : j.val = t.val * 2048 + i.val) (l : Fin 384) :
    db7 V c t (ix2 i l) = dv7 V c (ix2 j l) := by
  unfold db7 dv7
  blk_point [iblk7, idx7 t]

/-- The cotangent of the query latents. -/
theorem call7_3 (c : Dev nD) :
    (dat7 V c).arrAt 3 cfg7.N = rmsBack c384 (xv7 V c) (fun j => V c main_v25 (ix2 0 j)) (dv7 V c) := by
  refine (dat7 V c).arrAt_eq_of_covers 3 _ (by decide +kernel) fun t _ y => ?_
  blk_simp
  generalize hz : ((View.whole main_v34_0).slice (win7_3.rect t)).emb y = z
  have h0 : (z 0).val = t.val * 2048 + (y 0).val := by rw [← hz]; blk_simp [idx7 t]
  have h1 : z = ix2 (z 0) (y 1) := (eq_ix2 z).trans (congrArg _ (Fin.ext (by rw [← hz]; blk_simp [idx7 t])))
  have hy : rmsBack c384 (xb7 V c t) (fun j => iblk7 V c 1 t (ix2 0 j)) (db7 V c t) y
      = rmsBack c384 (xv7 V c) (fun j => V c main_v25 (ix2 0 j)) (dv7 V c) z := by
    rw [h1]
    exact (congrArg _ (eq_ix2 y)).trans (rmsBack_row (fun l => rows7 V c t (y 0) (z 0) h0 l) (fun l => gain7 V c t l)
      (fun l => cots7 V c t (y 0) (z 0) h0 l) (y 1))
  rw [after7_3]
  by_cases h : t.val % 2 = 0
  · rw [outsAt7_A V c t h]; frame_out
    rw [pay7_back, hy]
  · rw [outsAt7_B V c t h]; frame_out
    rw [pay7_back, hy]

/-- The cotangent of the gain of the query latents' norm. -/
theorem call7_4 (c : Dev nD) : (dat7 V c).arrAt 4 cfg7.N = fun i => rmsDg c384 (xv7 V c) (dv7 V c) (i 1) := by
  refine (dat7 V c).arrAt_eq_of_after_last 4 t7_1 (by decide +kernel) _ fun j => ?_
  blk_simp
  rw [after7_4, Pipeline.eq_sum_fin_of_reset_step_apply_last (fun n h => (outsAt7 V c n h).2) 2 (fun _ => 0)
    (fun t j => rmsDg c384 (xb7 V c t) (db7 V c t) (j 1))
    (fun t h j => by rw [outsAt7_A V c t h]; frame_out; rw [pay7_dg, pay7_zero])
    (fun t h j => by rw [outsAt7_B V c t h]; frame_out; rw [pay7_dg])
    (le_of_eq N_7) t7_1 rfl j, zero_add]
  refine Fin.sum_mul_add_congr fun s k hl => ?_
  exact congrArg₂ (· * ·) (unit_row (fun l => rows7 V c s k _ rfl l) _) (cots7 V c s k _ rfl _)

theorem idx8 : ∀ t : Fin cfg8.N, win8_0.index t = ![t.val, 8] ∧ win8_1.index t = ![0, 0] ∧ win8_2.index t = ![t.val, 0]
    ∧ win8_3.index t = ![t.val, 0] ∧ win8_4.index t = ![0, 0] :=
  (by decide +kernel : ∀ t : Fin grid8.N, _)

theorem pay8_ms (X : FVec Ideal S2048x256 .f32) : k8_pay5 (F := Ideal) X = fun i => ms c256 X (i 0) := by
  funext i; idx_vars i
  pointwise [k8_pay5, k8_pay3, ms, c256, cRms]

theorem pay8_back (X D : FVec Ideal S2048x256 .f32) (g : FVec Ideal S1x256 .f32) :
    k8_pay8 (F := Ideal) X g D = rmsBack c256 X (fun j => g (ix2 0 j)) D := by
  unfold k8_pay8 k8_pay6
  rw [pay8_ms]
  funext i; idx_vars i
  pointwise [k8_pay3, k8_pay4, rmsBack, dms, c256, cHalf, Finset.univ_unique, Finset.sum_singleton]

theorem pay8_dg (X D : FVec Ideal S2048x256 .f32) (A : FVec Ideal S1x256 .f32) (j : S1x256.Idx) :
    k8_pay2 (F := Ideal) (k8_pay7 X D) A j = A j + rmsDg c256 X D (j 1) := by
  unfold k8_pay2 k8_pay7 k8_pay6
  rw [pay8_ms]
  idx_vars j
  pointwise [k8_pay3, k8_pay4, rmsDg, unit]

theorem pay8_zero (j) : k8_pay1 (F := Ideal) j = 0 := by pointwise [k8_pay1]

/-- A block of 2048 rows of the key and value latents. -/
abbrev xb8 (c : Dev nD) (t : Fin cfg8.N) : Mat 2048 256 := iblk8 V c 0 t
/-- The key and value latents. -/
abbrev xv8 (c : Dev nD) : Mat 4096 256 := cols 2048 (by decide) (V c main_v27 : Mat 4096 2304)

theorem rows8 (c : Dev nD) (t : Fin cfg8.N) (i : Fin 2048) (j : Fin 4096) (h : j.val = t.val * 2048 + i.val) (l : Fin 256) :
    xb8 V c t (ix2 i l) = xv8 V c (ix2 j l) := by
  unfold xb8 xv8 cols
  blk_point [iblk8, idx8 t]

theorem gain8 (c : Dev nD) (t : Fin cfg8.N) (l : Fin 256) : iblk8 V c 1 t (ix2 0 l) = V c main_v26 (ix2 0 l) := by
  blk_point [iblk8, idx8 t]

/-- A block of 2048 rows of the norm's cotangent. -/
abbrev db8 (c : Dev nD) (t : Fin cfg8.N) : Mat 2048 256 := iblk8 V c 2 t
/-- The norm's cotangent. -/
abbrev dv8 (c : Dev nD) : Mat 4096 256 := V c main_v33

theorem cots8 (c : Dev nD) (t : Fin cfg8.N) (i : Fin 2048) (j : Fin 4096) (h : j.val = t.val * 2048 + i.val) (l : Fin 256) :
    db8 V c t (ix2 i l) = dv8 V c (ix2 j l) := by
  unfold db8 dv8
  blk_point [iblk8, idx8 t]

/-- The cotangent of the key and value latents. -/
theorem call8_3 (c : Dev nD) :
    (dat8 V c).arrAt 3 cfg8.N = rmsBack c256 (xv8 V c) (fun j => V c main_v26 (ix2 0 j)) (dv8 V c) := by
  refine (dat8 V c).arrAt_eq_of_covers 3 _ (by decide +kernel) fun t _ y => ?_
  blk_simp
  generalize hz : ((View.whole main_v35_0).slice (win8_3.rect t)).emb y = z
  have h0 : (z 0).val = t.val * 2048 + (y 0).val := by rw [← hz]; blk_simp [idx8 t]
  have h1 : z = ix2 (z 0) (y 1) := (eq_ix2 z).trans (congrArg _ (Fin.ext (by rw [← hz]; blk_simp [idx8 t])))
  have hy : rmsBack c256 (xb8 V c t) (fun j => iblk8 V c 1 t (ix2 0 j)) (db8 V c t) y
      = rmsBack c256 (xv8 V c) (fun j => V c main_v26 (ix2 0 j)) (dv8 V c) z := by
    rw [h1]
    exact (congrArg _ (eq_ix2 y)).trans (rmsBack_row (fun l => rows8 V c t (y 0) (z 0) h0 l) (fun l => gain8 V c t l)
      (fun l => cots8 V c t (y 0) (z 0) h0 l) (y 1))
  rw [after8_3]
  by_cases h : t.val % 2 = 0
  · rw [outsAt8_A V c t h]; frame_out
    rw [pay8_back, hy]
  · rw [outsAt8_B V c t h]; frame_out
    rw [pay8_back, hy]

/-- The cotangent of the gain of the key and value latents' norm. -/
theorem call8_4 (c : Dev nD) : (dat8 V c).arrAt 4 cfg8.N = fun i => rmsDg c256 (xv8 V c) (dv8 V c) (i 1) := by
  refine (dat8 V c).arrAt_eq_of_after_last 4 t8_1 (by decide +kernel) _ fun j => ?_
  blk_simp
  rw [after8_4, Pipeline.eq_sum_fin_of_reset_step_apply_last (fun n h => (outsAt8 V c n h).2) 2 (fun _ => 0)
    (fun t j => rmsDg c256 (xb8 V c t) (db8 V c t) (j 1))
    (fun t h j => by rw [outsAt8_A V c t h]; frame_out; rw [pay8_dg, pay8_zero])
    (fun t h j => by rw [outsAt8_B V c t h]; frame_out; rw [pay8_dg])
    (le_of_eq N_8) t8_1 rfl j, zero_add]
  refine Fin.sum_mul_add_congr fun s k hl => ?_
  exact congrArg₂ (· * ·) (unit_row (fun l => rows8 V c s k _ rfl l) _) (cots8 V c s k _ rfl _)

end Cert.Proj

end
-- ==== Proof.ProjChain.lean ====
/-
  The second program's buffers, region after region: the host's arrangements of columns, what each region leaves, and the
  arrangements undone at the end. -/
module

public import proofs.«01_k».proof.Proof.Gen.Kernel2Ideal.Frame
public import proofs.«01_k».proof.Proof.ProjSpec
public import proofs.«01_k».proof.Proof.ProjNorm
public import proofs.«01_k».proof.Proof.ProjJoin
public import proofs.«01_k».proof.Proof.ProjCalls
public import proofs.«01_k».proof.Proof.ProjNorms
public import Idealize.ShloMosaic.Lib.Pipeline.ValueKit
public import Idealize.ShloMosaic.Lib.Pointwise

@[expose] public section

set_option maxRecDepth 16384

noncomputable section

namespace Cert.Proj

open Cert.Kernel2Ideal Cert.Kernel2Ideal.Gen Cert.Spec
open Idealize.ShloMosaic Idealize.ShloMosaic.TcCoe Idealize.SL.Sem

variable (m : (ℓ : Loc nD τ sig) → Buf (Elt Ideal) ℓ) (ρ : Dev nD → PrngReg) (c : Dev nD)

/-- The arguments on device `c`. -/
abbrev xh : Mat 4096 1024 := m ((c : Thread nD τ).loc main_arg0)
abbrev win : Mat 1024 2208 := m ((c : Thread nD τ).loc main_arg1)
abbrev gq : Row 384 := m ((c : Thread nD τ).loc main_arg2)
abbrev wuq : Mat 384 768 := m ((c : Thread nD τ).loc main_arg3)
abbrev gkv : Row 256 := m ((c : Thread nD τ).loc main_arg4)
abbrev wukv : Mat 256 1024 := m ((c : Thread nD τ).loc main_arg5)
abbrev dmix : Mat 4096 1536 := m ((c : Thread nD τ).loc main_arg6)
abbrev drope : Mat 4096 32 := m ((c : Thread nD τ).loc main_arg7)
abbrev dq : Mat 4096 768 := m ((c : Thread nD τ).loc main_arg8)
abbrev dkv : Mat 4096 1024 := m ((c : Thread nD τ).loc main_arg9)

/-- What the projection leaves, its cotangent and the latents', of the arguments. -/
abbrev proj : Mat 4096 2304 := mm (xh m c) (place (win m c))
abbrev xq : Mat 4096 384 := cq (xh m c) (win m c)
abbrev xkv : Mat 4096 256 := ckv (xh m c) (win m c)
abbrev dzq : Mat 4096 384 := mmt (dq m c) (wuq m c)
abbrev dzkv : Mat 4096 256 := mmt (dkv m c) (wukv m c)
abbrev dcq : Mat 4096 384 := rmsBack c384 (xq m c) (fun j => gq m c (ix1 j)) (dzq m c)
abbrev dckv : Mat 4096 256 := rmsBack c256 (xkv m c) (fun j => gkv m c (ix1 j)) (dzkv m c)
abbrev dproj : Mat 4096 2208 := join (dmix m c) (dcq m c) (dckv m c) (drope m c)

theorem cols_q : cols 1536 (by decide) (proj m c) = xq m c :=
  cols_holds (a := 1536) (b := 1536) _ _ fun j => Fin.ext (by have := j.isLt; simp only [inCol]; split_ifs <;> omega)

theorem cols_kv : cols 2048 (by decide) (proj m c) = xkv m c :=
  cols_holds (a := 2048) (b := 1920) _ _ fun j => Fin.ext (by have := j.isLt; simp only [inCol]; split_ifs <;> omega)

theorem h_v0 : V1 m ρ c main_v0 = xh m c := by
  unfold_abbrev_sides
  after_results
  rfl

theorem h_v2 : V1 m ρ c main_v2 = dmix m c := by
  unfold_abbrev_sides
  after_results
  rfl

theorem h_v3 : V1 m ρ c main_v3 = drope m c := by
  unfold_abbrev_sides
  after_results
  rfl

theorem h_v14 : (V1 m ρ c main_v14 : Mat 1024 2304) = place (win m c) := by
  unfold_abbrev_sides
  after_results
  funext i; idx_vars i
  show _ = placeAt _ i0 i1
  unfold placeAt
  pointwise []
  split_ifs <;> first
    | omega
    | (simp only [add_zero, zero_add]
       first
         | done
         | rfl
         | exact congrArg (fun q => (win m c) (ix2 i0 q)) (Fin.ext (by simp only; omega)))

theorem h_v18 : (V1 m ρ c main_v18 : Mat 384 1024) = padHeads (wuq m c) := by
  unfold_abbrev_sides
  after_results
  funext i; idx_vars i
  show _ = padAt _ i0 i1
  unfold padAt
  pointwise []
  split_ifs <;> first | rfl | omega

theorem h_v19 : V1 m ρ c main_v19 = wukv m c := by
  unfold_abbrev_sides
  after_results
  rfl

theorem h_v23 : (V1 m ρ c main_v23 : Mat 4096 1024) = padHeads (dq m c) := by
  unfold_abbrev_sides
  after_results
  funext i; idx_vars i
  show _ = padAt _ i0 i1
  unfold padAt
  pointwise []
  split_ifs <;> first | rfl | omega

theorem h_v24 : V1 m ρ c main_v24 = dkv m c := by
  unfold_abbrev_sides
  after_results
  rfl

theorem h_v25 : (V1 m ρ c main_v25 : Mat 1 384) = fun i => gq m c (ix1 (i 1)) := by
  unfold_abbrev_sides
  after_results
  funext i; idx_vars i
  pointwise []

theorem h_v26 : (V1 m ρ c main_v26 : Mat 1 256) = fun i => gkv m c (ix1 (i 1)) := by
  unfold_abbrev_sides
  after_results
  funext i; idx_vars i
  pointwise []

theorem s_v27 : W2 m ρ c (Proc.devRef .tc main_v27) = proj m c := by
  have e_v0 : V1 m ρ c main_v0 = xh m c := h_v0 m ρ c
  have e_v14 : V1 m ρ c main_v14 = place (win m c) := h_v14 m ρ c
  refine (W2_arr m ρ c 2).trans ((call0 (V1 m ρ) c).trans ?_)
  rw [e_v0, e_v14]

theorem g2_v25 : W2 m ρ c (Proc.devRef .tc main_v25) = fun i => gq m c (ix1 (i 1)) := by
  rw [W2_of m ρ c main_v25 (by decide +kernel)]
  exact h_v25 m ρ c

theorem s_v28 : W3 m ρ c (Proc.devRef .tc main_v28) = rms c384 (xq m c) (fun j => gq m c (ix1 j)) := by
  have e_v27 : V2 m ρ c main_v27 = proj m c := s_v27 m ρ c
  have e_v25 : V2 m ρ c main_v25 = fun i => gq m c (ix1 (i 1)) := g2_v25 m ρ c
  refine (W3_arr m ρ c 2).trans ((call1 (V2 m ρ) c).trans ?_)
  unfold xv1
  rw [e_v27, e_v25, cols_q m c]
  rfl

theorem g3_v27 : W3 m ρ c (Proc.devRef .tc main_v27) = proj m c := by
  rw [W3_of m ρ c main_v27 (by decide +kernel)]
  exact s_v27 m ρ c

theorem g3_v26 : W3 m ρ c (Proc.devRef .tc main_v26) = fun i => gkv m c (ix1 (i 1)) := by
  rw [W3_of m ρ c main_v26 (by decide +kernel), W2_of m ρ c main_v26 (by decide +kernel)]
  exact h_v26 m ρ c

theorem s_v29 : W4 m ρ c (Proc.devRef .tc main_v29) = rms c256 (xkv m c) (fun j => gkv m c (ix1 j)) := by
  have e_v27 : V3 m ρ c main_v27 = proj m c := g3_v27 m ρ c
  have e_v26 : V3 m ρ c main_v26 = fun i => gkv m c (ix1 (i 1)) := g3_v26 m ρ c
  refine (W4_arr m ρ c 2).trans ((call2 (V3 m ρ) c).trans ?_)
  unfold xv2
  rw [e_v27, e_v26, cols_kv m c]
  rfl

theorem g4_v28 : W4 m ρ c (Proc.devRef .tc main_v28) = rms c384 (xq m c) (fun j => gq m c (ix1 j)) := by
  rw [W4_of m ρ c main_v28 (by decide +kernel)]
  exact s_v28 m ρ c

theorem g4_v18 : W4 m ρ c (Proc.devRef .tc main_v18) = padHeads (wuq m c) := by
  rw [W4_of m ρ c main_v18 (by decide +kernel), W3_of m ρ c main_v18 (by decide +kernel), W2_of m ρ c main_v18 (by decide +kernel)]
  exact h_v18 m ρ c

theorem s_v30 : W5 m ρ c (Proc.devRef .tc main_v30) = mm (rms c384 (xq m c) (fun j => gq m c (ix1 j))) (padHeads (wuq m c)) := by
  have e_v28 : V4 m ρ c main_v28 = rms c384 (xq m c) (fun j => gq m c (ix1 j)) := g4_v28 m ρ c
  have e_v18 : V4 m ρ c main_v18 = padHeads (wuq m c) := g4_v18 m ρ c
  refine (W5_arr m ρ c 2).trans ((call3 (V4 m ρ) c).trans ?_)
  rw [e_v28, e_v18]

theorem g5_v29 : W5 m ρ c (Proc.devRef .tc main_v29) = rms c256 (xkv m c) (fun j => gkv m c (ix1 j)) := by
  rw [W5_of m ρ c main_v29 (by decide +kernel)]
  exact s_v29 m ρ c

theorem g5_v19 : W5 m ρ c (Proc.devRef .tc main_v19) = wukv m c := by
  rw [W5_of m ρ c main_v19 (by decide +kernel), W4_of m ρ c main_v19 (by decide +kernel), W3_of m ρ c main_v19 (by decide +kernel), W2_of m ρ c main_v19 (by decide +kernel)]
  exact h_v19 m ρ c

theorem s_v31 : W6 m ρ c (Proc.devRef .tc main_v31) = mm (rms c256 (xkv m c) (fun j => gkv m c (ix1 j))) (wukv m c) := by
  have e_v29 : V5 m ρ c main_v29 = rms c256 (xkv m c) (fun j => gkv m c (ix1 j)) := g5_v29 m ρ c
  have e_v19 : V5 m ρ c main_v19 = wukv m c := g5_v19 m ρ c
  refine (W6_arr m ρ c 2).trans ((call4 (V5 m ρ) c).trans ?_)
  rw [e_v29, e_v19]

theorem g6_v23 : W6 m ρ c (Proc.devRef .tc main_v23) = padHeads (dq m c) := by
  rw [W6_of m ρ c main_v23 (by decide +kernel), W5_of m ρ c main_v23 (by decide +kernel), W4_of m ρ c main_v23 (by decide +kernel), W3_of m ρ c main_v23 (by decide +kernel), W2_of m ρ c main_v23 (by decide +kernel)]
  exact h_v23 m ρ c

theorem g6_v18 : W6 m ρ c (Proc.devRef .tc main_v18) = padHeads (wuq m c) := by
  rw [W6_of m ρ c main_v18 (by decide +kernel), W5_of m ρ c main_v18 (by decide +kernel), W4_of m ρ c main_v18 (by decide +kernel), W3_of m ρ c main_v18 (by decide +kernel), W2_of m ρ c main_v18 (by decide +kernel)]
  exact h_v18 m ρ c

theorem s_v32 : W7 m ρ c (Proc.devRef .tc main_v32) = dzq m c := by
  have e_v23 : V6 m ρ c main_v23 = padHeads (dq m c) := g6_v23 m ρ c
  have e_v18 : V6 m ρ c main_v18 = padHeads (wuq m c) := g6_v18 m ρ c
  refine (W7_arr m ρ c 2).trans ((call5 (V6 m ρ) c).trans ?_)
  rw [e_v23, e_v18]
  exact mmt_holds headCol_inj (holds_padHeads _) (holds_padHeads _)

theorem g7_v24 : W7 m ρ c (Proc.devRef .tc main_v24) = dkv m c := by
  rw [W7_of m ρ c main_v24 (by decide +kernel), W6_of m ρ c main_v24 (by decide +kernel), W5_of m ρ c main_v24 (by decide +kernel), W4_of m ρ c main_v24 (by decide +kernel), W3_of m ρ c main_v24 (by decide +kernel), W2_of m ρ c main_v24 (by decide +kernel)]
  exact h_v24 m ρ c

theorem g7_v19 : W7 m ρ c (Proc.devRef .tc main_v19) = wukv m c := by
  rw [W7_of m ρ c main_v19 (by decide +kernel), W6_of m ρ c main_v19 (by decide +kernel), W5_of m ρ c main_v19 (by decide +kernel), W4_of m ρ c main_v19 (by decide +kernel), W3_of m ρ c main_v19 (by decide +kernel), W2_of m ρ c main_v19 (by decide +kernel)]
  exact h_v19 m ρ c

theorem s_v33 : W8 m ρ c (Proc.devRef .tc main_v33) = dzkv m c := by
  have e_v24 : V7 m ρ c main_v24 = dkv m c := g7_v24 m ρ c
  have e_v19 : V7 m ρ c main_v19 = wukv m c := g7_v19 m ρ c
  refine (W8_arr m ρ c 2).trans ((call6 (V7 m ρ) c).trans ?_)
  rw [e_v24, e_v19]

theorem g8_v27 : W8 m ρ c (Proc.devRef .tc main_v27) = proj m c := by
  rw [W8_of m ρ c main_v27 (by decide +kernel), W7_of m ρ c main_v27 (by decide +kernel), W6_of m ρ c main_v27 (by decide +kernel), W5_of m ρ c main_v27 (by decide +kernel), W4_of m ρ c main_v27 (by decide +kernel), W3_of m ρ c main_v27 (by decide +kernel)]
  exact s_v27 m ρ c

theorem g8_v25 : W8 m ρ c (Proc.devRef .tc main_v25) = fun i => gq m c (ix1 (i 1)) := by
  rw [W8_of m ρ c main_v25 (by decide +kernel), W7_of m ρ c main_v25 (by decide +kernel), W6_of m ρ c main_v25 (by decide +kernel), W5_of m ρ c main_v25 (by decide +kernel), W4_of m ρ c main_v25 (by decide +kernel), W3_of m ρ c main_v25 (by decide +kernel), W2_of m ρ c main_v25 (by decide +kernel)]
  exact h_v25 m ρ c

theorem g8_v32 : W8 m ρ c (Proc.devRef .tc main_v32) = dzq m c := by
  rw [W8_of m ρ c main_v32 (by decide +kernel)]
  exact s_v32 m ρ c

theorem s_v34_0 : W9 m ρ c (Proc.devRef .tc main_v34_0) = dcq m c := by
  have e_v27 : V8 m ρ c main_v27 = proj m c := g8_v27 m ρ c
  have e_v25 : V8 m ρ c main_v25 = fun i => gq m c (ix1 (i 1)) := g8_v25 m ρ c
  have e_v32 : V8 m ρ c main_v32 = dzq m c := g8_v32 m ρ c
  refine (W9_arr m ρ c 3).trans ((call7_3 (V8 m ρ) c).trans ?_)
  unfold xv7 dv7
  rw [e_v27, e_v25, e_v32, cols_q m c]
  rfl

theorem s_v34_1 : W9 m ρ c (Proc.devRef .tc main_v34_1) = fun i => rmsDg c384 (xq m c) (dzq m c) (i 1) := by
  have e_v27 : V8 m ρ c main_v27 = proj m c := g8_v27 m ρ c
  have e_v32 : V8 m ρ c main_v32 = dzq m c := g8_v32 m ρ c
  refine (W9_arr m ρ c 4).trans ((call7_4 (V8 m ρ) c).trans ?_)
  unfold xv7 dv7
  rw [e_v27, e_v32, cols_q m c]

theorem g9_v27 : W9 m ρ c (Proc.devRef .tc main_v27) = proj m c := by
  rw [W9_of m ρ c main_v27 (by decide +kernel), W8_of m ρ c main_v27 (by decide +kernel), W7_of m ρ c main_v27 (by decide +kernel), W6_of m ρ c main_v27 (by decide +kernel), W5_of m ρ c main_v27 (by decide +kernel), W4_of m ρ c main_v27 (by decide +kernel), W3_of m ρ c main_v27 (by decide +kernel)]
  exact s_v27 m ρ c

theorem g9_v26 : W9 m ρ c (Proc.devRef .tc main_v26) = fun i => gkv m c (ix1 (i 1)) := by
  rw [W9_of m ρ c main_v26 (by decide +kernel), W8_of m ρ c main_v26 (by decide +kernel), W7_of m ρ c main_v26 (by decide +kernel), W6_of m ρ c main_v26 (by decide +kernel), W5_of m ρ c main_v26 (by decide +kernel), W4_of m ρ c main_v26 (by decide +kernel), W3_of m ρ c main_v26 (by decide +kernel), W2_of m ρ c main_v26 (by decide +kernel)]
  exact h_v26 m ρ c

theorem g9_v33 : W9 m ρ c (Proc.devRef .tc main_v33) = dzkv m c := by
  rw [W9_of m ρ c main_v33 (by decide +kernel)]
  exact s_v33 m ρ c

theorem s_v35_0 : W10 m ρ c (Proc.devRef .tc main_v35_0) = dckv m c := by
  have e_v27 : V9 m ρ c main_v27 = proj m c := g9_v27 m ρ c
  have e_v26 : V9 m ρ c main_v26 = fun i => gkv m c (ix1 (i 1)) := g9_v26 m ρ c
  have e_v33 : V9 m ρ c main_v33 = dzkv m c := g9_v33 m ρ c
  refine (W10_arr m ρ c 3).trans ((call8_3 (V9 m ρ) c).trans ?_)
  unfold xv8 dv8
  rw [e_v27, e_v26, e_v33, cols_kv m c]
  rfl

theorem s_v35_1 : W10 m ρ c (Proc.devRef .tc main_v35_1) = fun i => rmsDg c256 (xkv m c) (dzkv m c) (i 1) := by
  have e_v27 : V9 m ρ c main_v27 = proj m c := g9_v27 m ρ c
  have e_v33 : V9 m ρ c main_v33 = dzkv m c := g9_v33 m ρ c
  refine (W10_arr m ρ c 4).trans ((call8_4 (V9 m ρ) c).trans ?_)
  unfold xv8 dv8
  rw [e_v27, e_v33, cols_kv m c]

theorem g10_v2 : W10 m ρ c (Proc.devRef .tc main_v2) = dmix m c := by
  rw [W10_of m ρ c main_v2 (by decide +kernel), W9_of m ρ c main_v2 (by decide +kernel), W8_of m ρ c main_v2 (by decide +kernel), W7_of m ρ c main_v2 (by decide +kernel), W6_of m ρ c main_v2 (by decide +kernel), W5_of m ρ c main_v2 (by decide +kernel), W4_of m ρ c main_v2 (by decide +kernel), W3_of m ρ c main_v2 (by decide +kernel), W2_of m ρ c main_v2 (by decide +kernel)]
  exact h_v2 m ρ c

theorem g10_v34_0 : W10 m ρ c (Proc.devRef .tc main_v34_0) = dcq m c := by
  rw [W10_of m ρ c main_v34_0 (by decide +kernel)]
  exact s_v34_0 m ρ c

theorem g10_v3 : W10 m ρ c (Proc.devRef .tc main_v3) = drope m c := by
  rw [W10_of m ρ c main_v3 (by decide +kernel), W9_of m ρ c main_v3 (by decide +kernel), W8_of m ρ c main_v3 (by decide +kernel), W7_of m ρ c main_v3 (by decide +kernel), W6_of m ρ c main_v3 (by decide +kernel), W5_of m ρ c main_v3 (by decide +kernel), W4_of m ρ c main_v3 (by decide +kernel), W3_of m ρ c main_v3 (by decide +kernel), W2_of m ρ c main_v3 (by decide +kernel)]
  exact h_v3 m ρ c

/-- The cotangent of the projection, placed as its columns are. -/
theorem h_v42 : (W11 m ρ c (Proc.devRef .tc main_v42) : Mat 4096 2304) = place (dproj m c) := by
  unfold_abbrev_sides
  after_results
  have h2 := g10_v2 m ρ c
  have h34 := g10_v34_0 m ρ c
  have h3 := g10_v3 m ρ c
  have h35 := s_v35_0 m ρ c
  rw [h2, h34, h3, h35]
  exact joined _ _ _ _

theorem g11_v0 : W11 m ρ c (Proc.devRef .tc main_v0) = xh m c := by
  rw [W11_of m ρ c main_v0 (by decide +kernel), W10_of m ρ c main_v0 (by decide +kernel), W9_of m ρ c main_v0 (by decide +kernel), W8_of m ρ c main_v0 (by decide +kernel), W7_of m ρ c main_v0 (by decide +kernel), W6_of m ρ c main_v0 (by decide +kernel), W5_of m ρ c main_v0 (by decide +kernel), W4_of m ρ c main_v0 (by decide +kernel), W3_of m ρ c main_v0 (by decide +kernel), W2_of m ρ c main_v0 (by decide +kernel)]
  exact h_v0 m ρ c

theorem s_v43 : W12 m ρ c (Proc.devRef .tc main_v43) = tmm (xh m c) (place (dproj m c)) := by
  have e_v0 : V11 m ρ c main_v0 = xh m c := g11_v0 m ρ c
  have e_v42 : V11 m ρ c main_v42 = place (dproj m c) := h_v42 m ρ c
  refine (W12_arr m ρ c 2).trans ((call9 (V11 m ρ) c).trans ?_)
  rw [e_v0, e_v42]

theorem g12_v42 : W12 m ρ c (Proc.devRef .tc main_v42) = place (dproj m c) := by
  rw [W12_of m ρ c main_v42 (by decide +kernel)]
  exact h_v42 m ρ c

theorem g12_v14 : W12 m ρ c (Proc.devRef .tc main_v14) = place (win m c) := by
  rw [W12_of m ρ c main_v14 (by decide +kernel), W11_of m ρ c main_v14 (by decide +kernel), W10_of m ρ c main_v14 (by decide +kernel), W9_of m ρ c main_v14 (by decide +kernel), W8_of m ρ c main_v14 (by decide +kernel), W7_of m ρ c main_v14 (by decide +kernel), W6_of m ρ c main_v14 (by decide +kernel), W5_of m ρ c main_v14 (by decide +kernel), W4_of m ρ c main_v14 (by decide +kernel), W3_of m ρ c main_v14 (by decide +kernel), W2_of m ρ c main_v14 (by decide +kernel)]
  exact h_v14 m ρ c

theorem s_v44 : W13 m ρ c (Proc.devRef .tc main_v44) = mmt (place (dproj m c)) (place (win m c)) := by
  have e_v42 : V12 m ρ c main_v42 = place (dproj m c) := g12_v42 m ρ c
  have e_v14 : V12 m ρ c main_v14 = place (win m c) := g12_v14 m ρ c
  refine (W13_arr m ρ c 2).trans ((call10 (V12 m ρ) c).trans ?_)
  rw [e_v42, e_v14]

theorem l13_v27 : W13 m ρ c (Proc.devRef .tc main_v27) = proj m c := by
  rw [W13_of m ρ c main_v27 (by decide +kernel), W12_of m ρ c main_v27 (by decide +kernel), W11_of m ρ c main_v27 (by decide +kernel), W10_of m ρ c main_v27 (by decide +kernel), W9_of m ρ c main_v27 (by decide +kernel), W8_of m ρ c main_v27 (by decide +kernel), W7_of m ρ c main_v27 (by decide +kernel), W6_of m ρ c main_v27 (by decide +kernel), W5_of m ρ c main_v27 (by decide +kernel), W4_of m ρ c main_v27 (by decide +kernel), W3_of m ρ c main_v27 (by decide +kernel)]
  exact s_v27 m ρ c

theorem l13_v30 : W13 m ρ c (Proc.devRef .tc main_v30) = mm (rms c384 (xq m c) (fun j => gq m c (ix1 j))) (padHeads (wuq m c)) := by
  rw [W13_of m ρ c main_v30 (by decide +kernel), W12_of m ρ c main_v30 (by decide +kernel), W11_of m ρ c main_v30 (by decide +kernel), W10_of m ρ c main_v30 (by decide +kernel), W9_of m ρ c main_v30 (by decide +kernel), W8_of m ρ c main_v30 (by decide +kernel), W7_of m ρ c main_v30 (by decide +kernel), W6_of m ρ c main_v30 (by decide +kernel)]
  exact s_v30 m ρ c

theorem l13_v31 : W13 m ρ c (Proc.devRef .tc main_v31) = mm (rms c256 (xkv m c) (fun j => gkv m c (ix1 j))) (wukv m c) := by
  rw [W13_of m ρ c main_v31 (by decide +kernel), W12_of m ρ c main_v31 (by decide +kernel), W11_of m ρ c main_v31 (by decide +kernel), W10_of m ρ c main_v31 (by decide +kernel), W9_of m ρ c main_v31 (by decide +kernel), W8_of m ρ c main_v31 (by decide +kernel), W7_of m ρ c main_v31 (by decide +kernel)]
  exact s_v31 m ρ c

theorem l13_v34_1 : W13 m ρ c (Proc.devRef .tc main_v34_1) = fun i => rmsDg c384 (xq m c) (dzq m c) (i 1) := by
  rw [W13_of m ρ c main_v34_1 (by decide +kernel), W12_of m ρ c main_v34_1 (by decide +kernel), W11_of m ρ c main_v34_1 (by decide +kernel), W10_of m ρ c main_v34_1 (by decide +kernel)]
  exact s_v34_1 m ρ c

theorem l13_v35_1 : W13 m ρ c (Proc.devRef .tc main_v35_1) = fun i => rmsDg c256 (xkv m c) (dzkv m c) (i 1) := by
  rw [W13_of m ρ c main_v35_1 (by decide +kernel), W12_of m ρ c main_v35_1 (by decide +kernel), W11_of m ρ c main_v35_1 (by decide +kernel)]
  exact s_v35_1 m ρ c

theorem l13_v43 : W13 m ρ c (Proc.devRef .tc main_v43) = tmm (xh m c) (place (dproj m c)) := by
  rw [W13_of m ρ c main_v43 (by decide +kernel)]
  exact s_v43 m ρ c

/-- The mixers' columns of the projection. -/
theorem f_v53 : (W14 m ρ c (Proc.devRef .tc main_v53) : Mat 4096 1536) = cols 0 (by decide) (mm (xh m c) (win m c)) := by
  unfold_abbrev_sides
  after_results
  have hl := l13_v27 m ρ c
  funext i; idx_vars i
  refine Eq.trans ?_ (mm_holds (holds_place (win m c)) (xh m c) i0 ⟨0 + i1.val, by omega⟩)
  show _ = proj m c _
  rw [← hl]
  pointwise []
  exact congrArg (fun q => (W13 m ρ c (Proc.devRef .tc main_v27) : Mat 4096 2304) (ix2 i0 q)) (Fin.ext (by simp only [inCol]; split_ifs <;> omega))

/-- The rotary key's columns of the projection. -/
theorem f_v54 : (W14 m ρ c (Proc.devRef .tc main_v54) : Mat 4096 32) = cols 2176 (by decide) (mm (xh m c) (win m c)) := by
  unfold_abbrev_sides
  after_results
  have hl := l13_v27 m ρ c
  funext i; idx_vars i
  refine Eq.trans ?_ (mm_holds (holds_place (win m c)) (xh m c) i0 ⟨2176 + i1.val, by omega⟩)
  show _ = proj m c _
  rw [← hl]
  pointwise []
  exact congrArg (fun q => (W13 m ρ c (Proc.devRef .tc main_v27) : Mat 4096 2304) (ix2 i0 q)) (Fin.ext (by simp only [inCol]; split_ifs <;> omega))

/-- The queries, their heads 96 columns apart again. -/
theorem f_v57 : (W14 m ρ c (Proc.devRef .tc main_v57) : Mat 4096 768) = mm (rms c384 (xq m c) (fun j => gq m c (ix1 j))) (wuq m c) := by
  unfold_abbrev_sides
  after_results
  have hl := l13_v30 m ρ c
  funext i; idx_vars i
  refine Eq.trans ?_ (mm_holds (holds_padHeads (wuq m c)) _ i0 i1)
  rw [← hl]
  pointwise []
  rfl

theorem f_v31 : (W14 m ρ c (Proc.devRef .tc main_v31) : Mat 4096 1024) = mm (rms c256 (xkv m c) (fun j => gkv m c (ix1 j))) (wukv m c) := by
  unfold_abbrev_sides
  after_results
  have hl := l13_v31 m ρ c
  exact hl

theorem f_v58 : (W14 m ρ c (Proc.devRef .tc main_v58) : Row 384) = fun i => rmsDg c384 (xq m c) (dzq m c) (i 0) := by
  unfold_abbrev_sides
  after_results
  have hl := l13_v34_1 m ρ c
  rw [hl]
  funext i; idx_vars i
  pointwise []

theorem f_v59 : (W14 m ρ c (Proc.devRef .tc main_v59) : Row 256) = fun i => rmsDg c256 (xkv m c) (dzkv m c) (i 0) := by
  unfold_abbrev_sides
  after_results
  have hl := l13_v35_1 m ρ c
  rw [hl]
  funext i; idx_vars i
  pointwise []

/-- The weight gradient, its columns in the order of `w_in` again. -/
theorem f_v52 : (W14 m ρ c (Proc.devRef .tc main_v52) : Mat 1024 2208) = tmm (xh m c) (dproj m c) := by
  unfold_abbrev_sides
  after_results
  have hl := l13_v43 m ρ c
  funext i; idx_vars i
  refine Eq.trans ?_ (tmm_holds (holds_place (dproj m c)) (xh m c) i0 i1)
  rw [← hl]
  unfold inCol
  pointwise []
  split_ifs <;> first
    | omega
    | (simp only [add_zero, zero_add]
       first
         | done
         | rfl
         | exact congrArg (fun q => (W13 m ρ c (Proc.devRef .tc main_v43) : Mat 1024 2304) (ix2 i0 q)) (Fin.ext (by simp only; omega)))

theorem f_v44 : (W14 m ρ c (Proc.devRef .tc main_v44) : Mat 4096 1024) = mmt (dproj m c) (win m c) := by
  unfold_abbrev_sides
  after_results
  have hl := s_v44 m ρ c
  exact hl.trans (mmt_holds inCol_inj (holds_place _) (holds_place _))

end Cert.Proj

end
-- ==== Proof.ProjRef.lean ====
/- What the second reference computes, in the terms of Proof/ProjNorm.lean. -/
module

public import proofs.«01_k».proof.Proof.ProjNorm
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.ProjRef

open Idealize.ShloMosaic Idealize.ShloMosaic.Host Idealize.ShloMosaic.StableHlo
open Cert.Reference2Ideal Cert.Reference2Ideal.Gen Cert.Reference2Ideal.Read Cert.Spec Cert.Proj

variable (h : Mat 4096 1024) (win : Mat 1024 2208) (gq : Row 384) (wuq : Mat 384 768) (gkv : Row 256) (wukv : Mat 256 1024)
  (dmix : Mat 4096 1536) (drope : Mat 4096 32) (dq : Mat 4096 768) (dkv : Mat 4096 1024)

theorem r_v0 : val_main_v0 (F := Ideal) h win = mm h win := by
  unfold val_main_v0
  funext i; idx_vars i
  pointwise [mm]

theorem r_v1 : val_main_v1 (F := Ideal) h win = cols 0 (by decide) (mm h win) := by
  unfold val_main_v1
  rw [r_v0]
  funext i; idx_vars i
  pointwise [cols]

theorem r_v2 : val_main_v2 (F := Ideal) h win = cq h win := by
  unfold val_main_v2
  rw [r_v0]
  funext i; idx_vars i
  pointwise [cq, cols]

theorem r_v3 : val_main_v3 (F := Ideal) h win = ckv h win := by
  unfold val_main_v3
  rw [r_v0]
  funext i; idx_vars i
  pointwise [ckv, cols]

theorem r_v4 : val_main_v4 (F := Ideal) h win = cols 2176 (by decide) (mm h win) := by
  unfold val_main_v4
  rw [r_v0]
  funext i; idx_vars i
  pointwise [cols]

theorem r_v11 : val_main_v11 (F := Ideal) h win = fun i => ms c384 (cq h win) (i 0) := by
  unfold val_main_v11 val_main_v9 val_main_v7 val_main_v6 val_main_cst val_main_v5 val_main_v8 val_main_cst_0 val_main_v10 val_main_cst_1
  rw [r_v2]
  funext i; idx_vars i
  pointwise [ms, c384, cRms]

theorem r_v12 : val_main_v12 (F := Ideal) h win = fun i => Ideal.rsqrt (ms c384 (cq h win) (i 0)) := by
  unfold val_main_v12
  rw [r_v11]
  funext i; idx_vars i
  pointwise []

theorem r_v15 : val_main_v15 (F := Ideal) h win = fun i => cHalf * Ideal.div (Ideal.rsqrt (ms c384 (cq h win) (i 0))) (ms c384 (cq h win) (i 0)) := by
  unfold val_main_v15 val_main_v14 val_main_cst_2 val_main_v13
  rw [r_v12, r_v11]
  funext i; idx_vars i
  pointwise [cHalf]

theorem r_v17 : val_main_v17 (F := Ideal) h win = unit c384 (cq h win) := by
  unfold val_main_v17 val_main_v16
  rw [r_v2, r_v12]
  funext i; idx_vars i
  pointwise [unit]

theorem r_v20 : val_main_v20 (F := Ideal) h win gq = rms c384 (cq h win) (fun j => gq (ix1 j)) := by
  unfold val_main_v20 val_main_v19 val_main_v18
  rw [r_v17]
  funext i; idx_vars i
  pointwise [rms]

theorem r_v21 : val_main_v21 (F := Ideal) h win gq wuq = mm (rms c384 (cq h win) (fun j => gq (ix1 j))) wuq := by
  unfold val_main_v21
  rw [r_v20]
  funext i; idx_vars i
  pointwise [mm]

theorem r_v64 : val_main_v64 (F := Ideal) wuq dq = mmt dq wuq := by
  unfold val_main_v64
  funext i; idx_vars i
  pointwise [mmt]

theorem r_v69 : val_main_v69 (F := Ideal) gq wuq dq = fun i => (mmt dq wuq) i * gq (ix1 (i 1)) := by
  unfold val_main_v69 val_main_v68 val_main_v18
  rw [r_v64]
  funext i; idx_vars i
  pointwise []

theorem r_v73 : val_main_v73 (F := Ideal) h win gq wuq dq = fun i => ∑ l : Fin 384, (cq h win) (ix2 (i 0) l) * ((mmt dq wuq) (ix2 (i 0) l) * gq (ix1 l)) := by
  unfold val_main_v73 val_main_v72 val_main_cst_14 val_main_v71
  rw [r_v2, r_v69]
  funext i; idx_vars i
  pointwise []

theorem r_v78 : val_main_v78 (F := Ideal) h win gq wuq dq = fun i => dms c384 (cq h win) (fun j => gq (ix1 j)) (mmt dq wuq) (i 0) := by
  unfold val_main_v78 val_main_v76 val_main_v77 val_main_cst_15
  rw [r_v73, r_v15]
  funext i; idx_vars i
  pointwise [dms, c384]

theorem r_v80 : val_main_v80 (F := Ideal) h win gq wuq dq = fun i => dms c384 (cq h win) (fun j => gq (ix1 j)) (mmt dq wuq) (i 0) := by
  unfold val_main_v80 val_main_v79 val_main_cst_16
  rw [r_v78]
  funext i; idx_vars i
  pointwise [Finset.univ_unique, Finset.sum_singleton]

theorem r_v84 : val_main_v84 (F := Ideal) h win gq wuq dq = rmsBack c384 (cq h win) (fun j => gq (ix1 j)) (mmt dq wuq) := by
  unfold val_main_v84 val_main_v82 val_main_v75 val_main_v74 val_main_v81 val_main_v83
  rw [r_v69, r_v12, r_v2, r_v80]
  funext i; idx_vars i
  pointwise [rmsBack]

theorem r_v70 : val_main_v70 (F := Ideal) h win wuq dq = fun i => rmsDg c384 (cq h win) (mmt dq wuq) (i 0) := by
  unfold val_main_v70 val_main_cst_13 val_main_v67 val_main_v66 val_main_cst_12 val_main_v65
  rw [r_v17, r_v64]
  funext i; idx_vars i
  pointwise [rmsDg, Finset.univ_unique, Finset.sum_singleton]

theorem r_v28 : val_main_v28 (F := Ideal) h win = fun i => ms c256 (ckv h win) (i 0) := by
  unfold val_main_v28 val_main_v26 val_main_v24 val_main_v23 val_main_cst_3 val_main_v22 val_main_v25 val_main_cst_4 val_main_v27 val_main_cst_5
  rw [r_v3]
  funext i; idx_vars i
  pointwise [ms, c256, cRms]

theorem r_v29 : val_main_v29 (F := Ideal) h win = fun i => Ideal.rsqrt (ms c256 (ckv h win) (i 0)) := by
  unfold val_main_v29
  rw [r_v28]
  funext i; idx_vars i
  pointwise []

theorem r_v32 : val_main_v32 (F := Ideal) h win = fun i => cHalf * Ideal.div (Ideal.rsqrt (ms c256 (ckv h win) (i 0))) (ms c256 (ckv h win) (i 0)) := by
  unfold val_main_v32 val_main_v31 val_main_cst_6 val_main_v30
  rw [r_v29, r_v28]
  funext i; idx_vars i
  pointwise [cHalf]

theorem r_v34 : val_main_v34 (F := Ideal) h win = unit c256 (ckv h win) := by
  unfold val_main_v34 val_main_v33
  rw [r_v3, r_v29]
  funext i; idx_vars i
  pointwise [unit]

theorem r_v37 : val_main_v37 (F := Ideal) h win gkv = rms c256 (ckv h win) (fun j => gkv (ix1 j)) := by
  unfold val_main_v37 val_main_v36 val_main_v35
  rw [r_v34]
  funext i; idx_vars i
  pointwise [rms]

theorem r_v38 : val_main_v38 (F := Ideal) h win gkv wukv = mm (rms c256 (ckv h win) (fun j => gkv (ix1 j))) wukv := by
  unfold val_main_v38
  rw [r_v37]
  funext i; idx_vars i
  pointwise [mm]

theorem r_v41 : val_main_v41 (F := Ideal) wukv dkv = mmt dkv wukv := by
  unfold val_main_v41
  funext i; idx_vars i
  pointwise [mmt]

theorem r_v46 : val_main_v46 (F := Ideal) gkv wukv dkv = fun i => (mmt dkv wukv) i * gkv (ix1 (i 1)) := by
  unfold val_main_v46 val_main_v45 val_main_v35
  rw [r_v41]
  funext i; idx_vars i
  pointwise []

theorem r_v50 : val_main_v50 (F := Ideal) h win gkv wukv dkv = fun i => ∑ l : Fin 256, (ckv h win) (ix2 (i 0) l) * ((mmt dkv wukv) (ix2 (i 0) l) * gkv (ix1 l)) := by
  unfold val_main_v50 val_main_v49 val_main_cst_9 val_main_v48
  rw [r_v3, r_v46]
  funext i; idx_vars i
  pointwise []

theorem r_v55 : val_main_v55 (F := Ideal) h win gkv wukv dkv = fun i => dms c256 (ckv h win) (fun j => gkv (ix1 j)) (mmt dkv wukv) (i 0) := by
  unfold val_main_v55 val_main_v53 val_main_v54 val_main_cst_10
  rw [r_v50, r_v32]
  funext i; idx_vars i
  pointwise [dms, c256]

theorem r_v57 : val_main_v57 (F := Ideal) h win gkv wukv dkv = fun i => dms c256 (ckv h win) (fun j => gkv (ix1 j)) (mmt dkv wukv) (i 0) := by
  unfold val_main_v57 val_main_v56 val_main_cst_11
  rw [r_v55]
  funext i; idx_vars i
  pointwise [Finset.univ_unique, Finset.sum_singleton]

theorem r_v61 : val_main_v61 (F := Ideal) h win gkv wukv dkv = rmsBack c256 (ckv h win) (fun j => gkv (ix1 j)) (mmt dkv wukv) := by
  unfold val_main_v61 val_main_v59 val_main_v52 val_main_v51 val_main_v58 val_main_v60
  rw [r_v46, r_v29, r_v3, r_v57]
  funext i; idx_vars i
  pointwise [rmsBack]

theorem r_v47 : val_main_v47 (F := Ideal) h win wukv dkv = fun i => rmsDg c256 (ckv h win) (mmt dkv wukv) (i 0) := by
  unfold val_main_v47 val_main_cst_8 val_main_v44 val_main_v43 val_main_cst_7 val_main_v42
  rw [r_v34, r_v41]
  funext i; idx_vars i
  pointwise [rmsDg, Finset.univ_unique, Finset.sum_singleton]

/-- The cotangent of the projection. -/
theorem r_v85 : val_main_v85 (F := Ideal) h win gq wuq gkv wukv dmix drope dq dkv = join dmix (rmsBack c384 (cq h win) (fun j => gq (ix1 j)) (mmt dq wuq)) (rmsBack c256 (ckv h win) (fun j => gkv (ix1 j)) (mmt dkv wukv)) drope := by
  unfold val_main_v85
  rw [r_v84, r_v61]
  generalize rmsBack c384 (cq h win) (fun j => gq (ix1 j)) (mmt dq wuq) = B
  generalize rmsBack c256 (ckv h win) (fun j => gkv (ix1 j)) (mmt dkv wukv) = C
  funext i; idx_vars i
  pointwise [join, joinAt]
  by_cases h1 : i1.val < 1536
  · simp [h1]
  by_cases h2 : i1.val < 1920
  · have a : i1.val - 1536 < 384 := by omega
    simp [h1, h2, a]
  have a : ¬ i1.val - 1536 < 384 := by omega
  by_cases h3 : i1.val < 2176
  · have b : i1.val - 1920 < 256 := by omega
    simp [h1, h2, a, h3, b, Nat.sub_sub]
  · have b : ¬ i1.val - 1920 < 256 := by omega
    simp [h1, h2, a, h3, b, Nat.sub_sub]

theorem r_v87 : val_main_v87 (F := Ideal) h win gq wuq gkv wukv dmix drope dq dkv = tmm h (join dmix (rmsBack c384 (cq h win) (fun j => gq (ix1 j)) (mmt dq wuq)) (rmsBack c256 (ckv h win) (fun j => gkv (ix1 j)) (mmt dkv wukv)) drope) := by
  unfold val_main_v87 val_main_v86
  rw [r_v85]
  funext i; idx_vars i
  pointwise [tmm]
  exact Finset.sum_congr rfl fun _ _ => mul_comm _ _

theorem r_v88 : val_main_v88 (F := Ideal) h win gq wuq gkv wukv dmix drope dq dkv = mmt (join dmix (rmsBack c384 (cq h win) (fun j => gq (ix1 j)) (mmt dq wuq)) (rmsBack c256 (ckv h win) (fun j => gkv (ix1 j)) (mmt dkv wukv)) drope) win := by
  unfold val_main_v88
  rw [r_v85]
  funext i; idx_vars i
  pointwise [mmt]

end Cert.ProjRef

end
-- ==== Proof.Run.lean ====
/-
  The kernel's run: it ends, nothing faults, every counter is zero again, and every buffer holds what the last boundary of
  the generated fold (`W18`) says.  Both frames and the values are read off this one statement.
-/
module

public import proofs.«01_k».proof.Defs
public import proofs.«01_k».proof.Proof.Gen.Kernel
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel ends with every buffer at the fold's last contents. -/
theorem run_main : θ_run defs (onTc (τ := τ) (main (F := F))) ⟨m, fun _ => 0, ρ⟩ (fun r =>
    (∀ c : Dev nD, ∀ b ∈ Pipeline.ucRefs τ sig, r.2.mem (((c : Thread nD τ)).1, b) = W18 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨h, funext fun g => hz g (.inr (no_unscoped g.2))⟩)

/-- A memory at the fold's last contents has the arguments as launched. -/
theorem args_kept {s : (ℓ : Loc nD τ sig) → Buf (Elt F) ℓ} (c : Dev nD)
    (h : ∀ b ∈ Pipeline.ucRefs τ sig, s (((c : Thread nD τ)).1, b) = W18 m ρ c b) :
      s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12) :=
  ⟨(h _ (mem_uc main_arg0 (by decide))).trans (W18_main_arg0 m ρ c),
    (h _ (mem_uc main_arg1 (by decide))).trans (W18_main_arg1 m ρ c),
    (h _ (mem_uc main_arg2 (by decide))).trans (W18_main_arg2 m ρ c),
    (h _ (mem_uc main_arg3 (by decide))).trans (W18_main_arg3 m ρ c),
    (h _ (mem_uc main_arg4 (by decide))).trans (W18_main_arg4 m ρ c),
    (h _ (mem_uc main_arg5 (by decide))).trans (W18_main_arg5 m ρ c),
    (h _ (mem_uc main_arg6 (by decide))).trans (W18_main_arg6 m ρ c),
    (h _ (mem_uc main_arg7 (by decide))).trans (W18_main_arg7 m ρ c),
    (h _ (mem_uc main_arg8 (by decide))).trans (W18_main_arg8 m ρ c),
    (h _ (mem_uc main_arg9 (by decide))).trans (W18_main_arg9 m ρ c),
    (h _ (mem_uc main_arg10 (by decide))).trans (W18_main_arg10 m ρ c),
    (h _ (mem_uc main_arg11 (by decide))).trans (W18_main_arg11 m ρ c),
    (h _ (mem_uc main_arg12 (by decide))).trans (W18_main_arg12 m ρ c)⟩

variable (F) in
/-- From any memory with zero counters the kernel ends, its arguments as launched and the counters at zero. -/
def Kept : Prop := ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem run_kept : Kept F := fun m ρ _ =>
  (θ_run defs _ _).mono (fun r h => ⟨fun c => args_kept m ρ c (h.1 c), h.2⟩) (run_main m ρ)

/-- The kernel over extended reals. -/
theorem frame_kernelIdeal : Cert.quiescent_KernelIdeal := fun m ρ _ => run_kept (F := Ideal) m ρ trivial

end Cert.Proof

end
-- ==== Proof.FrameBits.lean ====
/- The kernel over bits: its text is the one whose run Proof/Run.lean follows. -/
module

public import proofs.«01_k».proof.Defs
public import proofs.«01_k».proof.Proof.Gen.Kernel
public import proofs.«01_k».proof.Proof.Run

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel's text over bits is the text run in Proof/Run.lean. -/
theorem same_text : Cert.quiescent_Kernel = Kept Bits := by sl_kernel_rfl

/-- The kernel over bits. -/
theorem frame_kernel : Cert.quiescent_Kernel := same_text ▸ run_kept (F := Bits)

end Cert.Proof

end
-- ==== Proof.Reals.lean ====
/-
  Where the two programs' formulas differ by distributivity, which extended reals lack, they agree on reals.  This
  module has the three identities (layer norm, SwiGLU, logistic gate) and shows that every array of the layer is real
  when the arguments are.
-/
module

public import proofs.«01_k».proof.Proof.Spec

@[expose] public section

set_option maxRecDepth 16384

noncomputable section

namespace Cert.Spec

open Idealize.ShloMosaic

/-- An extended real that is a real. -/
def Re (x : EReal) : Prop := ∃ r : ℝ, x = (r : EReal)
/-- An extended real that is a positive real. -/
def RePos (x : EReal) : Prop := ∃ r : ℝ, 0 < r ∧ x = (r : EReal)

theorem RePos.re {x : EReal} : RePos x → Re x := fun ⟨r, _, h⟩ => ⟨r, h⟩

theorem Re.add {x y : EReal} : Re x → Re y → Re (x + y) := fun ⟨a, ha⟩ ⟨b, hb⟩ => ⟨a + b, by rw [ha, hb]; norm_cast⟩
theorem Re.mul {x y : EReal} : Re x → Re y → Re (x * y) := fun ⟨a, ha⟩ ⟨b, hb⟩ => ⟨a * b, by rw [ha, hb]; norm_cast⟩
theorem Re.neg {x : EReal} : Re x → Re (-x) := fun ⟨a, ha⟩ => ⟨-a, by rw [ha]; norm_cast⟩
theorem Re.sub {x y : EReal} : Re x → Re y → Re (x - y) := fun ⟨a, ha⟩ ⟨b, hb⟩ => ⟨a - b, by rw [ha, hb]; norm_cast⟩
theorem Re.one : Re 1 := ⟨1, by norm_cast⟩
theorem Re.exp {x : EReal} : Re x → Re (Ideal.exp x) := fun ⟨a, ha⟩ => ⟨Real.exp a, by rw [ha, Ideal.exp_coe]⟩
theorem Re.div {x y : EReal} : Re x → RePos y → Re (Ideal.div x y) := fun ⟨a, ha⟩ ⟨b, hb, hy⟩ =>
  ⟨a * (1 / b), by rw [ha, hy, Ideal.div_coe hb.ne']; norm_cast⟩
theorem Re.rsqrt {x : EReal} : RePos x → Re (Ideal.rsqrt x) := fun ⟨a, h, ha⟩ =>
  ⟨(√a)⁻¹, by rw [ha, Ideal.rsqrt_coe, if_neg (not_lt.2 h.le), if_neg h.ne']⟩

theorem coe_sum {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih]; norm_cast

theorem Re.sum {n : ℕ} {f : Fin n → EReal} (h : ∀ l, Re (f l)) : Re (∑ l, f l) := by
  choose g hg using h
  exact ⟨∑ l, g l, by rw [← coe_sum]; exact Finset.sum_congr rfl fun l _ => hg l⟩

/-! ## Constants -/

theorem cN_eq : cN = ((1024 : ℝ) : EReal) := by
  simp [cN, Ideal.ofBits, Ideal.ieee, -EReal.coe_mul]; norm_num
theorem cTwo_eq : cTwo = ((2 : ℝ) : EReal) := by
  simp [cTwo, Ideal.ofBits, Ideal.ieee, -EReal.coe_mul]; norm_num
theorem cAlpha_re : Re cAlpha := by
  simp [cAlpha, Ideal.ofBits, Ideal.ieee, -EReal.coe_mul]; exact ⟨_, rfl⟩
theorem cHalf_re : Re cHalf := by
  simp [cHalf, Ideal.ofBits, Ideal.ieee, -EReal.coe_mul]; exact ⟨_, rfl⟩
theorem cEps_pos : RePos cEps := by
  simp [cEps, Ideal.ofBits, Ideal.ieee, -EReal.coe_mul]; exact ⟨_, by norm_num, rfl⟩
theorem cN_pos : RePos cN := ⟨1024, by norm_num, cN_eq⟩
theorem cTwo_re : Re cTwo := ⟨2, cTwo_eq⟩

/-! ## Real arrays -/

variable {m k n : ℕ}

/-- Every entry is a real. -/
abbrev ReM {ι : Type} (X : ι → EReal) : Prop := ∀ i, Re (X i)

theorem mm_re {X : Mat m k} {Y : Mat k n} (hX : ReM X) (hY : ReM Y) : ReM (mm X Y) := fun _ => .sum fun _ => (hX _).mul (hY _)
theorem mmt_re {X : Mat m k} {Y : Mat n k} (hX : ReM X) (hY : ReM Y) : ReM (mmt X Y) := fun _ => .sum fun _ => (hX _).mul (hY _)

theorem cen_re {X : Mat m n} (hX : ReM X) : ReM (cen X) := fun _ => (hX _).sub (.div (.sum fun _ => hX _) cN_pos)

theorem ve_pos {X : Mat m n} (hX : ReM X) (r : Fin m) : RePos (ve X r) := by
  obtain ⟨e, he, hee⟩ := cEps_pos
  choose c hc using fun l => cen_re hX (ix2 r l)
  refine ⟨(∑ l, c l * c l) * (1 / 1024) + e,
    add_pos_of_nonneg_of_pos (mul_nonneg (Finset.sum_nonneg fun l _ => mul_self_nonneg _) (by norm_num)) he, ?_⟩
  rw [ve, cN_eq, hee, Ideal.div_coe (by norm_num), EReal.coe_add, EReal.coe_mul, ← coe_sum]
  congr 2
  exact Finset.sum_congr rfl fun l _ => by rw [hc l]; norm_cast

theorem nrm_re {X : Mat m n} (hX : ReM X) : ReM (nrm X) := fun i => (cen_re hX i).mul (.rsqrt (ve_pos hX _))
theorem ln_re {X : Mat m n} {g b : Fin n → EReal} (hX : ReM X) (hg : ReM g) (hb : ReM b) : ReM (ln X g b) :=
  fun i => ((nrm_re hX i).mul (hg _)).add (hb _)

theorem dA_re {X D : Mat m n} {g : Fin n → EReal} (hX : ReM X) (hg : ReM g) (hD : ReM D) : ReM (dA X g D) :=
  fun i => ((hD i).mul (hg _)).mul (.rsqrt (ve_pos hX _))
theorem dq_re {X D : Mat m n} {g : Fin n → EReal} (hX : ReM X) (hg : ReM g) (hD : ReM D) (r : Fin m) : Re (dq X g D r) :=
  .div ((Re.sum fun _ => (cen_re hX _).mul ((hD _).mul (hg _))).mul
    (cHalf_re.mul (.div (.rsqrt (ve_pos hX _)) (ve_pos hX _)))) cN_pos
theorem dB_re {X D : Mat m n} {g : Fin n → EReal} (hX : ReM X) (hg : ReM g) (hD : ReM D) : ReM (dB X g D) :=
  fun i => (dq_re hX hg hD _).mul (cTwo_re.mul (cen_re hX i))
theorem lnD_re {X D : Mat m n} {g : Fin n → EReal} (hX : ReM X) (hg : ReM g) (hD : ReM D) : ReM (lnD X g D) :=
  fun i => ((dA_re hX hg hD i).add (dB_re hX hg hD i)).add (.div
    ((Re.sum fun _ => (dA_re hX hg hD _).neg).add (.sum fun _ => (dB_re hX hg hD _).neg)) cN_pos)

theorem dE_eq {X D : Mat m n} {g : Fin n → EReal} (hX : ReM X) (hg : ReM g) (hD : ReM D) (i) :
    dE X g D i = dA X g D i + dB X g D i := by
  obtain ⟨q, hq⟩ := dq_re hX hg hD (i 0)
  obtain ⟨c, hc⟩ := cen_re hX i
  obtain ⟨d, hd⟩ := dA_re hX hg hD i
  rw [dE, dB, hq, hc, hd, cTwo_eq]; norm_cast; ring

/-- The two forms of the layer norm's gradient agree on reals. -/
theorem lnK_eq {X D : Mat m n} {g : Fin n → EReal} (hX : ReM X) (hg : ReM g) (hD : ReM D) : lnK X g D = lnD X g D := by
  funext i
  have h : ∀ l, -dE X g D (ix2 (i 0) l) = -dA X g D (ix2 (i 0) l) + -dB X g D (ix2 (i 0) l) := fun l => by
    obtain ⟨u, hu⟩ := dA_re hX hg hD (ix2 (i 0) l)
    obtain ⟨v, hv⟩ := dB_re hX hg hD (ix2 (i 0) l)
    rw [dE_eq hX hg hD, hu, hv]; norm_cast; ring
  simp only [lnK, lnD, h, Finset.sum_add_distrib, dE_eq hX hg hD i]

/-! ## The gates -/

theorem den_pos {x : EReal} : Re x → RePos (1 + Ideal.exp (-x)) := fun ⟨r, h⟩ =>
  ⟨1 + Real.exp (-r), add_pos one_pos (Real.exp_pos _), by rw [h, ← EReal.coe_neg, Ideal.exp_coe]; norm_cast⟩
theorem sg_re {x : EReal} (h : Re x) : Re (sg x) := .div .one (den_pos h)
theorem dsg_re {d x : EReal} (hd : Re d) (h : Re x) : Re (dsg d x) := hd.mul ((sg_re h).mul (Re.one.sub (sg_re h)))
theorem dsilu_re {d x : EReal} (hd : Re d) (h : Re x) : Re (dsilu d x) :=
  (hd.mul (sg_re h)).add ((h.mul hd).mul ((sg_re h).mul (Re.one.sub (sg_re h))))

/-- The two forms of SwiGLU's gate gradient agree on reals. -/
theorem dsiluK_eq {d x : EReal} (hd : Re d) (h : Re x) : dsiluK d x = dsilu d x := by
  obtain ⟨s, hs⟩ := sg_re h
  obtain ⟨d, rfl⟩ := hd
  obtain ⟨x, rfl⟩ := h
  rw [dsiluK, dsilu, hs]; norm_cast; ring

/-- The two forms of the logistic gate's gradient agree on reals. -/
theorem dsgK_eq {d x : EReal} (hd : Re d) (h : Re x) : dsgK d x = dsg d x := by
  obtain ⟨d, rfl⟩ := hd
  obtain ⟨x, rfl⟩ := h
  have hp : 0 < 1 + Real.exp (-x) := add_pos one_pos (Real.exp_pos _)
  have h1 : (1 : EReal) + ((Real.exp (-x) : ℝ) : EReal) = ((1 + Real.exp (-x) : ℝ) : EReal) := by norm_cast
  have hs : sg (x : EReal) = ((1 / (1 + Real.exp (-x)) : ℝ) : EReal) := by
    rw [sg, ← EReal.coe_neg, Ideal.exp_coe, h1, Ideal.div_coe hp.ne', one_mul]
  rw [dsgK, dsg, hs, ← EReal.coe_neg, Ideal.exp_coe, h1, ← EReal.coe_mul, Ideal.div_coe (mul_pos hp hp).ne', one_mul]
  norm_cast
  field_simp
  ring

/-! ## The layer -/

namespace Args

/-- Every argument entry is a real. -/
structure Real (a : Args) : Prop where
  h : ReM a.h
  cat : ReM a.cat
  p : ReM a.p
  wo : ReM a.wo
  g1 : ReM a.g1
  b1 : ReM a.b1
  wgu : ReM a.wgu
  wd : ReM a.wd
  wpg : ReM a.wpg
  wpp : ReM a.wpp
  g2 : ReM a.g2
  b2 : ReM a.b2
  dy : ReM a.dy

variable {a : Args} (ha : a.Real)
include ha

theorem X1_re : ReM a.X1 := fun i => (cAlpha_re.mul (ha.h i)).add (mm_re ha.cat ha.wo i)
theorem H1_re : ReM a.H1 := ln_re (X1_re ha) (fun _ => ha.g1 _) fun _ => ha.b1 _
theorem GU_re : ReM a.GU := mm_re (H1_re ha) ha.wgu
theorem gate_re : ReM a.gate := fun _ => GU_re ha _
theorem up_re : ReM a.up := fun _ => GU_re ha _
theorem act_re : ReM a.act := fun i => ((gate_re ha i).mul (sg_re (gate_re ha i))).mul (up_re ha i)
theorem PG_re : ReM a.PG := mm_re (H1_re ha) ha.wpg
theorem PP_re : ReM a.PP := mm_re ha.p ha.wpp
theorem X2_re : ReM a.X2 := fun i =>
  ((cAlpha_re.mul (H1_re ha i)).add (mm_re (act_re ha) ha.wd i)).add ((sg_re (PG_re ha i)).mul (PP_re ha i))
theorem D2_re : ReM a.D2 := lnD_re (X2_re ha) (fun _ => ha.g2 _) ha.dy
theorem DZ_re : ReM a.DZ := fun i => dsg_re ((D2_re ha i).mul (PP_re ha i)) (PG_re ha i)
theorem DA_re : ReM a.DA := mmt_re (D2_re ha) ha.wd
theorem Dgate_re : ReM a.Dgate := fun i => dsilu_re ((DA_re ha i).mul (up_re ha i)) (gate_re ha i)
theorem Dup_re : ReM a.Dup := fun i => (DA_re ha i).mul ((gate_re ha i).mul (sg_re (gate_re ha i)))
theorem DGU_re : ReM a.DGU := fun i => by
  rw [DGU]; split
  · exact Dgate_re ha _
  · exact Dup_re ha _
theorem DH_re : ReM a.DH := fun i =>
  ((cAlpha_re.mul (D2_re ha i)).add (mmt_re (DZ_re ha) ha.wpg i)).add (mmt_re (DGU_re ha) ha.wgu i)

end Args

end Cert.Spec

end
-- ==== Proof.Layout.lean ====
/-
  Layouts: the matrices whose columns the kernel holds in blocks of 704, and the rows it holds as one-row matrices.
-/
module

public import proofs.«01_k».proof.Proof.Reals
public import proofs.«01_k».proof.Proof.Blocks
public import proofs.«01_k».proof.KernelIdeal
public import Idealize.ShloMosaic.Lib.Pipeline.ValueKit
public import Idealize.ShloMosaic.Lib.Pointwise

@[expose] public section

set_option maxRecDepth 16384

noncomputable section

namespace Cert.Spec

open Idealize.ShloMosaic Cert.KernelIdeal

/-- The gate's block, from the blocked product. -/
theorem guBlk_gate (a : Args) (b : Fin 4) (r : Fin 4096) (l : Fin 704) :
    guBlk a.H1 (blk 8 rfl a.wgu) (ix4 0 b r l) = a.gate (ix2 r (cj 4 rfl b l)) := by
  unfold guBlk Args.gate Args.GU mm blk
  refine Finset.sum_congr rfl fun k _ => congrArg (a.H1 (ix2 r k) * ·) (congrArg a.wgu ?_)
  blk_ext [cj]
  try omega

/-- The up product's block, from the blocked product. -/
theorem guBlk_up (a : Args) (b : Fin 4) (r : Fin 4096) (l : Fin 704) :
    guBlk a.H1 (blk 8 rfl a.wgu) (ix4 1 b r l) = a.up (ix2 r (cj 4 rfl b l)) := by
  unfold guBlk Args.up Args.GU mm blk
  refine Finset.sum_congr rfl fun k _ => congrArg (a.H1 (ix2 r k) * ·) (congrArg a.wgu ?_)
  blk_ext [cj]
  try omega

theorem actBlk_eq (a : Args) : actBlk (guBlk a.H1 (blk 8 rfl a.wgu)) = blk 4 rfl a.act := by
  funext i
  unfold actBlk
  rw [guBlk_gate a (i 0) (i 1) (i 2), guBlk_up a (i 0) (i 1) (i 2)]
  rfl

/-- Merging the two leading axes. -/
theorem merge_gu (X : T4) (hs : S2x4x4096x704.ShapeCasts S8x4096x704) (q : Fin 8) (p : Fin 2) (b : Fin 4) (r : Fin 4096) (l : Fin 704)
    (h : q.val = p.val * 4 + b.val) : shapeCast S8x4096x704 X hs (ix3 q r l) = X (ix4 p b r l) := by
  pointwise []
  exact congrArg X (by blk_ext)

theorem dguBlk_gate {a : Args} (ha : a.Real) (b : Fin 4) (r : Fin 4096) (l : Fin 704) :
    dguBlk a.D2 a.wd (guBlk a.H1 (blk 8 rfl a.wgu)) (ix4 0 b r l) = a.Dgate (ix2 r (cj 4 rfl b l)) := by
  refine (if_pos rfl).trans ?_
  refine Eq.trans ?_ (dsiluK_eq ((Args.DA_re ha _).mul (Args.up_re ha _)) (Args.gate_re ha _))
  exact congrArg₂ (fun u g => dsiluK (a.DA (ix2 r (cj 4 rfl b l)) * u) g) (guBlk_up a b r l) (guBlk_gate a b r l)

theorem dguBlk_up (a : Args) (b : Fin 4) (r : Fin 4096) (l : Fin 704) :
    dguBlk a.D2 a.wd (guBlk a.H1 (blk 8 rfl a.wgu)) (ix4 1 b r l) = a.Dup (ix2 r (cj 4 rfl b l)) := by
  refine (if_neg (show ¬ (1 : Fin 2).val = 0 by decide)).trans ?_
  exact congrArg (fun g => a.DA (ix2 r (cj 4 rfl b l)) * (g * sg g)) (guBlk_gate a b r l)

theorem DGU_gate (a : Args) (r : Fin 4096) (j : Fin 5632) (h : j.val < 2816) : a.DGU (ix2 r j) = a.Dgate (ix2 r ⟨j.val, h⟩) := by
  unfold Args.DGU; exact dif_pos h

theorem DGU_up (a : Args) (r : Fin 4096) (j : Fin 5632) (k : Fin 2816) (h : j.val = 2816 + k.val) : a.DGU (ix2 r j) = a.Dup (ix2 r k) := by
  have hn : ¬ j.val < 2816 := by omega
  have hk : k = ⟨j.val - 2816, by omega⟩ := Fin.ext (by show k.val = j.val - 2816; omega)
  rw [hk]
  unfold Args.DGU; exact dif_neg hn

/-- The cotangents of the gate and up blocks, joined, are the blocks of `DGU`. -/
theorem dguBlk_eq {a : Args} (ha : a.Real) (hs : S2x4x4096x704.ShapeCasts S8x4096x704) :
    shapeCast S8x4096x704 (dguBlk a.D2 a.wd (guBlk a.H1 (blk 8 rfl a.wgu))) hs = blk 8 rfl a.DGU := by
  funext i
  obtain ⟨q, r, l, rfl⟩ : ∃ (q : Fin 8) (r : Fin 4096) (l : Fin 704), i = ix3 q r l := ⟨i 0, i 1, i 2, eq_ix3 i⟩
  have hl := l.isLt
  by_cases h : q.val < 4
  · rw [merge_gu _ hs q 0 ⟨q.val, h⟩ r l (by simp), dguBlk_gate ha]
    exact (DGU_gate a r (cj 8 rfl q l) (show q.val * 704 + l.val < 2816 by omega)).symm
  · rw [merge_gu _ hs q 1 ⟨q.val - 4, by omega⟩ r l (by show q.val = 1 * 4 + (q.val - 4); omega), dguBlk_up]
    exact (DGU_up a r (cj 8 rfl q l) (cj 4 rfl ⟨q.val - 4, by omega⟩ l)
      (by show q.val * 704 + l.val = 2816 + ((q.val - 4) * 704 + l.val); omega)).symm

/-- A row held as a one-row matrix. -/
theorem row_of (x : Row 1024) (h : S1024.ShapeCasts S1x1024) : shapeCast S1x1024 x h = fun i => x (ix1 (i 1)) := by
  funext i
  pointwise []

/-- A one-row matrix read as a row. -/
theorem row_back (x : Row 1024) (h : S1x1024.ShapeCasts S1024) : shapeCast S1024 (fun i : S1x1024.Idx => x (ix1 (i 1))) h = x := by
  funext i
  pointwise []

/-- A matrix of 5632 columns in blocks. -/
theorem wgu_blk (x : Mat 1024 5632) (h : S1024x5632.ShapeCasts S1024x8x704) (h' : S1024x8x704.Transposes [1, 0, 2] S8x1024x704) :
    transpose S8x1024x704 [1, 0, 2] (shapeCast S1024x8x704 x h) h' = blk 8 rfl x := by
  funext i
  idx_vars i
  pointwise [blk]
  exact congrArg x (by blk_ext [cj]; try omega)

/-- The blocks put back. -/
theorem gu_back (x : Mat 1024 5632) (h' : S8x1024x704.Transposes [1, 0, 2] S1024x8x704) (h : S1024x8x704.ShapeCasts S1024x5632) :
    shapeCast S1024x5632 (transpose S1024x8x704 [1, 0, 2] (blk 8 rfl x) h') h = x := by
  funext i
  idx_vars i
  pointwise [blk]
  exact congrArg x (by blk_ext [cj]; try omega)

end Cert.Spec

end
-- ==== Proof.Call0.lean ====
/- The mixers' output projection. -/
module

public import proofs.«01_k».proof.Proof.Gen.KernelIdeal.Frame.Region0
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem call0 (c : Dev nD) : (dat0 V c).arrAt 2 cfg0.N = mm (V c main_v0) (V c main_v1) := by
  refine (dat0 V c).arrAt_eq_of_covers 2 _ (by decide +kernel) fun t _ y => ?_
  blk_simp
  rw [after0_2]; frame_out
  pointwise [k0_pay1, mm]
  blk_point [iblk0, idx0 t]

end Cert.Calls

end
-- ==== Proof.Call1.lean ====
/- The first layer norm. -/
module

public import proofs.«01_k».proof.Proof.Gen.KernelIdeal.Frame.Region1
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![0, 0] ∧ win1_3.index t = ![0, 0] ∧ win1_4.index t = ![t.val, 0] ∧ win1_5.index t = ![t.val, 0] :=
  (by decide +kernel : ∀ t : Fin grid1.N, _)

theorem call1_4 (c : Dev nD) : (dat1 V c).arrAt 4 cfg1.N =
    ln (fun i => cAlpha * V c main_arg0 i + V c main_v12 i) (fun j => V c main_v8 (ix2 0 j)) (fun j => V c main_v9 (ix2 0 j)) := by
  refine (dat1 V c).arrAt_eq_of_covers 4 _ (by decide +kernel) fun t _ y => ?_
  blk_simp
  rw [after1_4]; frame_out
  pointwise [k1_pay1, k1_pay2, ln, nrm, cen, ve, mean, cAlpha, cN, cEps]
  blk_point [iblk1, idx1 t]

theorem call1_5 (c : Dev nD) : (dat1 V c).arrAt 5 cfg1.N =
    ln (fun i => cAlpha * V c main_arg0 i + V c main_v12 i) (fun j => V c main_v8 (ix2 0 j)) (fun j => V c main_v9 (ix2 0 j)) := by
  refine (dat1 V c).arrAt_eq_of_covers 5 _ (by decide +kernel) fun t _ y => ?_
  blk_simp
  rw [after1_5]; frame_out
  pointwise [k1_pay1, k1_pay2, ln, nrm, cen, ve, mean, cAlpha, cN, cEps]
  blk_point [iblk1, idx1 t]

end Cert.Calls

end
-- ==== Proof.Call2.lean ====
/- The gate and up projections and SwiGLU, in column blocks. -/
module

public import proofs.«01_k».proof.Proof.Gen.KernelIdeal.Frame.Region2
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx2 : ∀ t : Fin cfg2.N, win2_0.index t = ![t.val / 4, 0] ∧ win2_1.index t = ![t.val % 4, 0, 0] ∧ win2_2.index t = ![t.val % 4 + 4, 0, 0] ∧ win2_3.index t = ![0, t.val % 4, t.val / 4, 0] ∧ win2_4.index t = ![t.val % 4, t.val / 4, 0] :=
  (by decide +kernel : ∀ t : Fin grid2.N, _)

theorem call2_3 (c : Dev nD) : (dat2 V c).arrAt 3 cfg2.N = guBlk (V c main_v13_1) (V c main_v7) := by
  refine (dat2 V c).arrAt_eq_of_covers 3 _ (by decide +kernel) fun t _ y => ?_
  blk_simp
  rw [after2_3]
  canon_tiles x h
  all_goals (open_payloads; pointwise [guBlk]; blk_point [iblk2, idx2 t])

theorem call2_4 (c : Dev nD) : (dat2 V c).arrAt 4 cfg2.N = actBlk (guBlk (V c main_v13_1) (V c main_v7)) := by
  refine (dat2 V c).arrAt_eq_of_covers 4 _ (by decide +kernel) fun t _ y => ?_
  blk_simp
  rw [after2_4]; frame_out
  pointwise [k2_pay1, k2_pay2, k2_pay3, k2_pay6, actBlk, guBlk, sg, zero_sub]
  blk_point [iblk2, idx2 t]

end Cert.Calls

end
-- ==== Proof.Call3.lean ====
/- The down projection, a sum over four column blocks. -/
module

public import proofs.«01_k».proof.Proof.Gen.KernelIdeal.Frame.Region3
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx3 : ∀ t : Fin cfg3.N, win3_0.index t = ![0, t.val, 0] ∧ win3_1.index t = ![0, 0] ∧ win3_2.index t = ![t.val, 0] :=
  (by decide +kernel : ∀ t : Fin grid3.N, _)

theorem call3 (c : Dev nD) : (dat3 V c).arrAt 2 cfg3.N = blkMm (V c main_v14_1) (V c main_v2) := by
  refine (dat3 V c).arrAt_eq_of_covers 2 _ (by decide +kernel) fun t _ y => ?_
  blk_simp
  rw [after3_2]; frame_out
  pointwise [k3_pay1, blkMm, cj, Fin.sum_univ_four]
  blk_point [iblk3, idx3 t]

end Cert.Calls

end
-- ==== Proof.Call4.lean ====
/- The logistic gate's projection. -/
module

public import proofs.«01_k».proof.Proof.Gen.KernelIdeal.Frame.Region4
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx4 : ∀ t : Fin cfg4.N, win4_0.index t = ![t.val, 0] ∧ win4_1.index t = ![0, 0] ∧ win4_2.index t = ![t.val, 0] :=
  (by decide +kernel : ∀ t : Fin grid4.N, _)

theorem call4 (c : Dev nD) : (dat4 V c).arrAt 2 cfg4.N = mm (V c main_v13_1) (V c main_v3) := by
  refine (dat4 V c).arrAt_eq_of_covers 2 _ (by decide +kernel) fun t _ y => ?_
  blk_simp
  rw [after4_2]; frame_out
  pointwise [k4_pay1, mm]
  blk_point [iblk4, idx4 t]

end Cert.Calls

end
-- ==== Proof.Call5.lean ====
/- The per-layer embedding's projection. -/
module

public import proofs.«01_k».proof.Proof.Gen.KernelIdeal.Frame.Region5
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx5 : ∀ t : Fin cfg5.N, win5_0.index t = ![t.val, 0] ∧ win5_1.index t = ![0, 0] ∧ win5_2.index t = ![t.val, 0] :=
  (by decide +kernel : ∀ t : Fin grid5.N, _)

theorem call5 (c : Dev nD) : (dat5 V c).arrAt 2 cfg5.N = mm (V c main_arg2) (V c main_v4) := by
  refine (dat5 V c).arrAt_eq_of_covers 2 _ (by decide +kernel) fun t _ y => ?_
  blk_simp
  rw [after5_2]; frame_out
  pointwise [k5_pay1, mm]
  blk_point [iblk5, idx5 t]

end Cert.Calls

end
-- ==== Proof.LnBlk.lean ====
/-
  The layer norm and its gradient act on rows, so a block of rows may be treated alone; and the kernel's payloads over
  a block of 512 rows are these functions.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Spec

open Cert.KernelIdeal Cert.KernelIdeal.Gen
open Idealize.ShloMosaic

/-! ## Rows alone -/

section rows

variable {m m' n : ℕ} {X D : Mat m n} {X' D' : Mat m' n} {g b g' b' : Fin n → EReal} {r : Fin m} {r' : Fin m'}

theorem mean_row (h : ∀ l, X (ix2 r l) = X' (ix2 r' l)) : mean X r = mean X' r' := by
  simp only [mean, h]
theorem cen_row (h : ∀ l, X (ix2 r l) = X' (ix2 r' l)) (l : Fin n) : cen X (ix2 r l) = cen X' (ix2 r' l) :=
  congrArg₂ (· - ·) (h l) (mean_row h)
theorem ve_row (h : ∀ l, X (ix2 r l) = X' (ix2 r' l)) : ve X r = ve X' r' := by
  simp only [ve, cen_row h]
theorem nrm_row (h : ∀ l, X (ix2 r l) = X' (ix2 r' l)) (l : Fin n) : nrm X (ix2 r l) = nrm X' (ix2 r' l) :=
  congrArg₂ (· * Ideal.rsqrt ·) (cen_row h l) (ve_row h)
theorem ln_row (h : ∀ l, X (ix2 r l) = X' (ix2 r' l)) (hg : ∀ l, g l = g' l) (hb : ∀ l, b l = b' l) (l : Fin n) :
    ln X g b (ix2 r l) = ln X' g' b' (ix2 r' l) := by
  obtain rfl : g = g' := funext hg
  obtain rfl : b = b' := funext hb
  exact congrArg (fun x => x * g l + b l) (nrm_row h l)
theorem lnK_row (h : ∀ l, X (ix2 r l) = X' (ix2 r' l)) (hg : ∀ l, g l = g' l) (hD : ∀ l, D (ix2 r l) = D' (ix2 r' l))
    (l : Fin n) : lnK X g D (ix2 r l) = lnK X' g' D' (ix2 r' l) := by
  obtain rfl : g = g' := funext hg
  have hq : dq X g D r = dq X' g D' r' := by simp only [dq, cen_row h, hD, ve_row h]
  have hA : ∀ l, dA X g D (ix2 r l) = dA X' g D' (ix2 r' l) := fun l =>
    congrArg₂ (fun d v => (d * g l) * Ideal.rsqrt v) (hD l) (ve_row h)
  have hE : ∀ l, dE X g D (ix2 r l) = dE X' g D' (ix2 r' l) := fun l =>
    show (dA X g D (ix2 r l) + cen X (ix2 r l) * dq X g D r) + dq X g D r * cen X (ix2 r l)
      = (dA X' g D' (ix2 r' l) + cen X' (ix2 r' l) * dq X' g D' r') + dq X' g D' r' * cen X' (ix2 r' l) by
    rw [hA, cen_row h, hq]
  show dE X g D (ix2 r l) + Ideal.div (∑ l : Fin n, -dE X g D (ix2 r l)) cN
    = dE X' g D' (ix2 r' l) + Ideal.div (∑ l : Fin n, -dE X' g D' (ix2 r' l)) cN
  simp only [hE]

end rows

/-- What the first layer norm takes, from the layer's input and the projection. -/
def x1F {m : ℕ} (h mix : Mat m 1024) : Mat m 1024 := fun i => cAlpha * h i + mix i
/-- What the second layer norm takes. -/
def x2F {m : ℕ} (h1 ff pg pp : Mat m 1024) : Mat m 1024 := fun i => (cAlpha * h1 i + ff i) + sg (pg i) * pp i

/-! ## The second layer norm's payloads -/

theorem k6_cen (v0 v2 v4 v6 : FVec Ideal S512x1024 .f32) : k6_pay5 (F := Ideal) v0 v2 v4 v6 = cen (x2F v0 v2 v4 v6) := by
  funext i; idx_vars i
  pointwise [k6_pay5, cen, mean, x2F, sg, cAlpha, cN, zero_sub]

theorem k6_rstd (v0 v2 v4 v6 : FVec Ideal S512x1024 .f32) :
    k6_pay6 (F := Ideal) v0 v2 v4 v6 = fun i => Ideal.rsqrt (ve (x2F v0 v2 v4 v6) (i 0)) := by
  unfold k6_pay6; rw [k6_cen]
  funext i; idx_vars i
  pointwise [ve, cN, cEps]

theorem k6_ln (X : Mat 512 1024) (g b : FVec Ideal S1x1024 .f32) :
    k6_pay1 (F := Ideal) (k6_pay3 g) (k6_pay4 b) (cen X) (fun i => Ideal.rsqrt (ve X (i 0)))
      = ln X (fun j => g (ix2 0 j)) (fun j => b (ix2 0 j)) := by
  funext i; idx_vars i
  pointwise [k6_pay1, k6_pay3, k6_pay4, ln, nrm]

/-! ## The second layer norm's gradient's payloads -/

theorem k7_cen (v0 v2 v4 v6 : FVec Ideal S512x1024 .f32) : k7_pay15 (F := Ideal) v0 v2 v4 v6 = cen (x2F v0 v2 v4 v6) := by
  funext i; idx_vars i
  pointwise [k7_pay15, k7_pay13, k7_pay12, k7_pay11, k7_pay9, cen, mean, x2F, sg, cAlpha, cN, zero_sub]

theorem k7_ve (v0 v2 v4 v6 : FVec Ideal S512x1024 .f32) :
    k7_pay17 (F := Ideal) (k7_pay16 v0 v2 v4 v6) (Scalar.ofBits .f32 0x3727C5AC#32)
      = fun i => ve (x2F v0 v2 v4 v6) (i 0) := by
  unfold k7_pay16; rw [k7_cen]
  funext i; idx_vars i
  pointwise [k7_pay17, ve, cN, cEps]

theorem k7_D (X D : Mat 512 1024) (g : FVec Ideal S1x1024 .f32) (v : FVec Ideal S512x1 .f32) (e : Ideal .f32)
    (h : k7_pay17 (F := Ideal) v e = fun i => ve X (i 0)) :
    k7_pay22 (F := Ideal) (k7_pay10 g) D (cen X) v e = lnK X (fun j => g (ix2 0 j)) D := by
  unfold k7_pay22 k7_pay18; rw [h]
  funext i; idx_vars i
  pointwise [k7_pay19, k7_pay10, lnK, dE, dA, dq, cHalf, cN, zero_sub]
  simp only [Fin.sum_univ_one]

theorem k7_dg (X D : Mat 512 1024) (v : FVec Ideal S512x1 .f32) (e : Ideal .f32)
    (h : k7_pay17 (F := Ideal) v e = fun i => ve X (i 0)) (j : Fin 1024) :
    k7_pay21 (F := Ideal) D (cen X) v e (ix2 0 j) = ∑ r : Fin 512, nrm X (ix2 r j) * D (ix2 r j) := by
  unfold k7_pay21 k7_pay18; rw [h]
  pointwise [k7_pay19, nrm]

theorem k7_db (D : FVec Ideal S512x1024 .f32) (j : Fin 1024) :
    k7_pay20 (F := Ideal) D (ix2 0 j) = ∑ r : Fin 512, D (ix2 r j) := by
  pointwise [k7_pay20]

theorem k7_sD (D : Mat 512 1024) (pg : FVec Ideal S512x1024 .f32) (i) :
    mulf (k7_pay13 (F := Ideal) pg) D i = sg (pg i) * D i := by
  pointwise [k7_pay13, k7_pay12, k7_pay11, sg, zero_sub]

/-! ## The first layer norm's gradient's payloads -/

theorem k13_cen (v0 v1 : FVec Ideal S512x1024 .f32) : k13_pay4 (F := Ideal) v0 v1 = cen (x1F v0 v1) := by
  funext i; idx_vars i
  pointwise [k13_pay4, cen, mean, x1F, cAlpha, cN]

theorem k13_ve (v0 v1 : FVec Ideal S512x1024 .f32) :
    k13_pay5 (F := Ideal) v0 v1 = fun i => ve (x1F v0 v1) (i 0) := by
  unfold k13_pay5; rw [k13_cen]
  funext i; idx_vars i
  pointwise [ve, cN, cEps]

theorem k13_ct (v5 v7 v10 : FVec Ideal S512x1024 .f32) :
    k13_pay3 (F := Ideal) v5 v7 v10 = fun i => (v5 i + v7 i) + v10 i := by
  funext i; idx_vars i
  pointwise [k13_pay3]

theorem k13_D (v0 v1 : FVec Ideal S512x1024 .f32) (D : Mat 512 1024) (g : FVec Ideal S1x1024 .f32) :
    k13_pay10 (F := Ideal) (k13_pay2 g) D (k13_pay4 v0 v1) (k13_pay6 v0 v1) (k13_pay7 v0 v1)
      = lnK (x1F v0 v1) (fun j => g (ix2 0 j)) D := by
  unfold k13_pay10 k13_pay7 k13_pay6; rw [k13_ve, k13_cen]
  funext i; idx_vars i
  pointwise [k13_pay2, lnK, dE, dA, dq, cHalf, cN, zero_sub]
  simp only [Fin.sum_univ_one]

theorem k13_dg (v0 v1 v5 v7 v10 : FVec Ideal S512x1024 .f32) :
    k13_pay9 (F := Ideal) v0 v1 v5 v7 v10 = fun i => nrm (x1F v0 v1) i * ((v5 i + v7 i) + v10 i) := by
  unfold k13_pay9 k13_pay6; rw [k13_ve, k13_cen, k13_ct]
  funext i; idx_vars i
  pointwise [nrm]

end Cert.Spec

end
-- ==== Proof.Call6.lean ====
/- The second layer norm. -/
module

public import proofs.«01_k».proof.Proof.Gen.KernelIdeal.Frame.Region6
public import proofs.«01_k».proof.Proof.LnBlk
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx6 : ∀ t : Fin cfg6.N, win6_0.index t = ![t.val, 0] ∧ win6_1.index t = ![t.val, 0] ∧ win6_2.index t = ![t.val, 0] ∧ win6_3.index t = ![t.val, 0] ∧ win6_4.index t = ![0, 0] ∧ win6_5.index t = ![0, 0] ∧ win6_6.index t = ![t.val, 0] ∧ win6_7.index t = ![t.val, 0] :=
  (by decide +kernel : ∀ t : Fin grid6.N, _)

theorem ld6_0 (x : Vec Ideal S512x1024 .f32) : View.ld x r6_0 = x := by
  funext i; idx_vars i; pointwise; blk_ext
theorem ld6_1 (x : Vec Ideal S1x1024 .f32) : View.ld x r6_1 = x := by
  funext i; idx_vars i; pointwise; blk_ext

theorem pay6 (x0 x1 x2 x3 : FVec Ideal S512x1024 .f32) (x4 x5 : FVec Ideal S1x1024 .f32) :
    k6_pay1 (F := Ideal) (k6_pay7 x0 x1 x2 x3 x4 x5) (k6_pay8 x0 x1 x2 x3 x4 x5) (k6_pay9 x0 x1 x2 x3 x4 x5) (k6_pay10 x0 x1 x2 x3 x4 x5)
      = ln (x2F x0 x1 x2 x3) (fun j => x4 (ix2 0 j)) (fun j => x5 (ix2 0 j)) := by
  unfold k6_pay7 k6_pay8 k6_pay9 k6_pay10
  simp only [ld6_0, ld6_1]
  rw [k6_cen, k6_rstd]
  exact k6_ln _ _ _

theorem rows6 (c : Dev nD) (t : Fin cfg6.N) (i : Fin 512) (j : Fin 4096) (h : j.val = t.val * 512 + i.val) (l : Fin 1024) :
    x2F (iblk6 V c 0 t) (iblk6 V c 1 t) (iblk6 V c 2 t) (iblk6 V c 3 t) (ix2 i l)
      = x2F (V c main_v13_0) (V c main_v15) (V c main_v16) (V c main_v17) (ix2 j l) := by
  unfold x2F
  blk_point [iblk6, idx6 t]

theorem out6 (c : Dev nD) (t : Fin cfg6.N) (y : S512x1024.Idx) (z : S4096x1024.Idx) (h0 : (z 0).val = t.val * 512 + (y 0).val)
    (h1 : (z 1).val = (y 1).val) :
    ln (x2F (iblk6 V c 0 t) (iblk6 V c 1 t) (iblk6 V c 2 t) (iblk6 V c 3 t)) (fun j => iblk6 V c 4 t (ix2 0 j)) (fun j => iblk6 V c 5 t (ix2 0 j)) y
      = ln (x2F (V c main_v13_0) (V c main_v15) (V c main_v16) (V c main_v17)) (fun j => V c main_v10 (ix2 0 j)) (fun j => V c main_v11 (ix2 0 j)) z := by
  have hz : z = ix2 (z 0) (y 1) := by blk_ext
  rw [hz]
  refine Eq.trans (congrArg _ (eq_ix2 y)) (ln_row (fun l => rows6 V c t (y 0) (z 0) h0 l) (fun l => ?_) (fun l => ?_) (y 1))
  · blk_point [iblk6, idx6 t]
  · blk_point [iblk6, idx6 t]

theorem call6_6 (c : Dev nD) : (dat6 V c).arrAt 6 cfg6.N =
    ln (x2F (V c main_v13_0) (V c main_v15) (V c main_v16) (V c main_v17)) (fun j => V c main_v10 (ix2 0 j)) (fun j => V c main_v11 (ix2 0 j)) := by
  refine (dat6 V c).arrAt_eq_of_covers 6 _ (by decide +kernel) fun t _ y => ?_
  blk_simp
  rw [after6_6]; frame_out
  rw [pay6]
  exact out6 V c t y _ (by blk_simp [idx6 t]) (by blk_simp [idx6 t])

theorem call6_7 (c : Dev nD) : (dat6 V c).arrAt 7 cfg6.N =
    ln (x2F (V c main_v13_0) (V c main_v15) (V c main_v16) (V c main_v17)) (fun j => V c main_v10 (ix2 0 j)) (fun j => V c main_v11 (ix2 0 j)) := by
  refine (dat6 V c).arrAt_eq_of_covers 7 _ (by decide +kernel) fun t _ y => ?_
  blk_simp
  rw [after6_7]; frame_out
  show k6_pay1 (F := Ideal) _ _ _ _ y = _; rw [pay6]
  exact out6 V c t y _ (by blk_simp [idx6 t]) (by blk_simp [idx6 t])

end Cert.Calls

end
-- ==== Proof.Call7.lean ====
/- The second layer norm's gradient. -/
module

public import proofs.«01_k».proof.Proof.Gen.KernelIdeal.Frame.Region7
public import proofs.«01_k».proof.Proof.LnBlk
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx7 : ∀ t : Fin cfg7.N, win7_0.index t = ![t.val, 0] ∧ win7_1.index t = ![t.val, 0] ∧ win7_2.index t = ![t.val, 0] ∧ win7_3.index t = ![t.val, 0] ∧ win7_4.index t = ![0, 0] ∧ win7_5.index t = ![0, 0] ∧ win7_6.index t = ![t.val, 0] ∧ win7_7.index t = ![t.val, 0] ∧ win7_8.index t = ![t.val, 0] ∧ win7_9.index t = ![t.val, 0] ∧ win7_10.index t = ![t.val, 0] ∧ win7_11.index t = ![0, 0] ∧ win7_12.index t = ![0, 0] :=
  (by decide +kernel : ∀ t : Fin grid7.N, _)

theorem pay7_D (v0 v2 v4 v6 : FVec Ideal S512x1024 .f32) (D : FVec Ideal S512x1024 .f32) (g : FVec Ideal S1x1024 .f32) :
    k7_pay22 (F := Ideal) (k7_pay10 g) D (k7_pay15 v0 v2 v4 v6) (k7_pay16 v0 v2 v4 v6) (FloatOps.ofBits .f32 925353388#32)
      = lnK (x2F v0 v2 v4 v6) (fun j => g (ix2 0 j)) D := by
  rw [k7_cen]; exact k7_D _ _ _ _ _ (k7_ve _ _ _ _)

theorem pay7_7 (X : FVec Ideal S512x1024 .f32) (i) : k7_pay1 (F := Ideal) X i = cAlpha * X i := by
  pointwise [k7_pay1, cAlpha]

theorem pay7_8 (X : FVec Ideal S512x1024 .f32) (i) : k7_pay2 (F := Ideal) X i = X i := by
  pointwise [k7_pay2]

theorem pay7_9 (pg pp D X : FVec Ideal S512x1024 .f32) (g : FVec Ideal S1x1024 .f32) (v : FVec Ideal S512x1 .f32) (e : Ideal .f32) (i) :
    k7_pay3 (F := Ideal) (k7_pay11 pg) (k7_pay24 (k7_pay9 pp) g D (k7_pay14 pg) X v e) i
      = dsgK (k7_pay22 g D X v e i * pp i) (pg i) := by
  idx_vars i
  pointwise [k7_pay3, k7_pay24, k7_pay11, k7_pay14, k7_pay12, k7_pay9, dsgK, zero_sub]

theorem pay7_add (A P : FVec Ideal S1x1024 .f32) (j) : k7_pay7 (F := Ideal) A P j = P j + A j := by
  idx_vars j
  pointwise [k7_pay7]

theorem pay7_11 (v0 v2 v4 v6 : FVec Ideal S512x1024 .f32) (D : FVec Ideal S512x1024 .f32) (P : FVec Ideal S1x1024 .f32) (j : S1x1024.Idx) :
    k7_pay7 (F := Ideal) (k7_pay21 D (k7_pay15 v0 v2 v4 v6) (k7_pay16 v0 v2 v4 v6) (FloatOps.ofBits .f32 925353388#32)) P j
      = P j + ∑ r : Fin 512, nrm (x2F v0 v2 v4 v6) (ix2 r (j 1)) * D (ix2 r (j 1)) := by
  have hj : j = ix2 0 (j 1) := by blk_ext
  rw [k7_cen, pay7_add]
  exact congrArg (P j + ·) ((congrArg _ hj).trans (k7_dg _ D _ _ (k7_ve v0 v2 v4 v6) (j 1)))

theorem pay7_12 (D : FVec Ideal S512x1024 .f32) (P : FVec Ideal S1x1024 .f32) (j : S1x1024.Idx) :
    k7_pay8 (F := Ideal) (k7_pay20 D) P j = P j + ∑ r : Fin 512, D (ix2 r (j 1)) := by
  idx_vars j
  pointwise [k7_pay8, k7_pay20]

theorem pay7_5 (j) : k7_pay5 (F := Ideal) j = 0 := by pointwise [k7_pay5]
theorem pay7_6 (j) : k7_pay6 (F := Ideal) j = 0 := by pointwise [k7_pay6]

/-- The norm's input over the blocks at point `t`. -/
abbrev xb7 (c : Dev nD) (t : Fin cfg7.N) : Mat 512 1024 := x2F (iblk7 V c 0 t) (iblk7 V c 1 t) (iblk7 V c 2 t) (iblk7 V c 3 t)
/-- The norm's input over the arrays. -/
abbrev xv7 (c : Dev nD) : Mat 4096 1024 := x2F (V c main_v13_0) (V c main_v15) (V c main_v16) (V c main_v17)
/-- The norm's cotangent over the blocks at point `t`. -/
abbrev cb7 (c : Dev nD) (t : Fin cfg7.N) : Mat 512 1024 := iblk7 V c 6 t
/-- The norm's cotangent over the arrays. -/
abbrev cv7 (c : Dev nD) : Mat 4096 1024 := V c main_arg12

theorem rows7 (c : Dev nD) (t : Fin cfg7.N) (i : Fin 512) (j : Fin 4096) (h : j.val = t.val * 512 + i.val) (l : Fin 1024) :
    xb7 V c t (ix2 i l) = xv7 V c (ix2 j l) := by
  unfold xb7 xv7 x2F
  blk_point [iblk7, idx7 t]

theorem cots7 (c : Dev nD) (t : Fin cfg7.N) (i : Fin 512) (j : Fin 4096) (h : j.val = t.val * 512 + i.val) (l : Fin 1024) :
    cb7 V c t (ix2 i l) = cv7 V c (ix2 j l) := by
  unfold cb7 cv7
  blk_point [iblk7, idx7 t]

theorem out7 (c : Dev nD) (t : Fin cfg7.N) (y : S512x1024.Idx) (z : S4096x1024.Idx) (h0 : (z 0).val = t.val * 512 + (y 0).val)
    (h1 : (z 1).val = (y 1).val) :
    lnK (xb7 V c t) (fun j => iblk7 V c 4 t (ix2 0 j)) (cb7 V c t) y
      = lnK (xv7 V c) (fun j => V c main_v10 (ix2 0 j)) (cv7 V c) z := by
  have hz : z = ix2 (z 0) (y 1) := by blk_ext
  rw [hz]
  refine Eq.trans (congrArg _ (eq_ix2 y)) (lnK_row (fun l => rows7 V c t (y 0) (z 0) h0 l) (fun l => ?_)
    (fun l => cots7 V c t (y 0) (z 0) h0 l) (y 1))
  blk_point [iblk7, idx7 t]

theorem call7_7 (c : Dev nD) : (dat7 V c).arrAt 7 cfg7.N = fun i => cAlpha * lnK (xv7 V c) (fun j => V c main_v10 (ix2 0 j)) (cv7 V c) i := by
  refine (dat7 V c).arrAt_eq_of_covers 7 _ (by decide +kernel) fun t _ y => ?_
  blk_simp
  have hy := out7 V c t y (((View.whole main_v19_0).slice (win7_7.rect t)).emb y) (by blk_simp [idx7 t]) (by blk_simp [idx7 t])
  rw [after7_7]
  by_cases h : t.val % 8 = 0
  · rw [outsAt7_A V c t h]; frame_out
    rw [pay7_7, pay7_D, hy]
  · rw [outsAt7_B V c t h]; frame_out
    rw [pay7_7, pay7_D, hy]

theorem call7_8 (c : Dev nD) : (dat7 V c).arrAt 8 cfg7.N = lnK (xv7 V c) (fun j => V c main_v10 (ix2 0 j)) (cv7 V c) := by
  refine (dat7 V c).arrAt_eq_of_covers 8 _ (by decide +kernel) fun t _ y => ?_
  blk_simp
  have hy := out7 V c t y (((View.whole main_v19_1).slice (win7_8.rect t)).emb y) (by blk_simp [idx7 t]) (by blk_simp [idx7 t])
  rw [after7_8]
  by_cases h : t.val % 8 = 0
  · rw [outsAt7_A V c t h]; frame_out
    rw [pay7_8, pay7_D, hy]
  · rw [outsAt7_B V c t h]; frame_out
    rw [pay7_8, pay7_D, hy]

set_option maxHeartbeats 1000000 in
theorem call7_9 (c : Dev nD) : (dat7 V c).arrAt 9 cfg7.N = fun i => dsgK (lnK (xv7 V c) (fun j => V c main_v10 (ix2 0 j)) (cv7 V c) i * V c main_v17 i) (V c main_v16 i) := by
  refine (dat7 V c).arrAt_eq_of_covers 9 _ (by decide +kernel) fun t _ y => ?_
  blk_simp
  have hy := out7 V c t y (((View.whole main_v19_2).slice (win7_9.rect t)).emb y) (by blk_simp [idx7 t]) (by blk_simp [idx7 t])
  have h3 : iblk7 V c 3 t y = V c main_v17 (((View.whole main_v19_2).slice (win7_9.rect t)).emb y) := by blk_point [iblk7, idx7 t]
  have h2 : iblk7 V c 2 t y = V c main_v16 (((View.whole main_v19_2).slice (win7_9.rect t)).emb y) := by blk_point [iblk7, idx7 t]
  rw [after7_9]
  by_cases h : t.val % 8 = 0
  · rw [outsAt7_A V c t h]; frame_out
    rw [pay7_9, pay7_D, hy, h2, h3]
  · rw [outsAt7_B V c t h]; frame_out
    rw [pay7_9, pay7_D, hy, h2, h3]

theorem call7_11 (c : Dev nD) : (dat7 V c).arrAt 11 cfg7.N = fun i => lnDg (xv7 V c) (cv7 V c) (ix1 (i 1)) := by
  refine (dat7 V c).arrAt_eq_of_after_last 11 t7_7 (by decide +kernel) _ fun j => ?_
  blk_simp
  rw [after7_11, Pipeline.eq_sum_fin_of_reset_step_apply_last (fun n h => (outsAt7 V c n h).2.2.2.2.1) 8 (fun _ => 0)
    (fun t j => ∑ r : Fin 512, nrm (xb7 V c t) (ix2 r (j 1)) * cb7 V c t (ix2 r (j 1)))
    (fun t h j => by rw [outsAt7_A V c t h]; frame_out; rw [pay7_11, pay7_5])
    (fun t h j => by rw [outsAt7_B V c t h]; frame_out; rw [pay7_11])
    (le_of_eq N_7) t7_7 rfl j, zero_add]
  refine Fin.sum_mul_add_congr fun s k hl => ?_
  exact congrArg₂ (· * ·) (nrm_row (fun l => rows7 V c s k _ rfl l) _) (cots7 V c s k _ rfl _)

theorem call7_12 (c : Dev nD) : (dat7 V c).arrAt 12 cfg7.N = fun i => lnDb (cv7 V c) (ix1 (i 1)) := by
  refine (dat7 V c).arrAt_eq_of_after_last 12 t7_7 (by decide +kernel) _ fun j => ?_
  blk_simp
  rw [after7_12, Pipeline.eq_sum_fin_of_reset_step_apply_last (fun n h => (outsAt7 V c n h).2.2.2.2.2) 8 (fun _ => 0)
    (fun t j => ∑ r : Fin 512, cb7 V c t (ix2 r (j 1)))
    (fun t h j => by rw [outsAt7_A V c t h]; frame_out; rw [pay7_12, pay7_6])
    (fun t h j => by rw [outsAt7_B V c t h]; frame_out; rw [pay7_12])
    (le_of_eq N_7) t7_7 rfl j, zero_add]
  refine Fin.sum_mul_add_congr fun s k hl => ?_
  exact cots7 V c s k _ rfl _

end Cert.Calls

end
-- ==== Proof.Call8.lean ====
/- The gradient of the logistic gate's projection with respect to its input. -/
module

public import proofs.«01_k».proof.Proof.Gen.KernelIdeal.Frame.Region8
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx8 : ∀ t : Fin cfg8.N, win8_0.index t = ![t.val, 0] ∧ win8_1.index t = ![0, 0] ∧ win8_2.index t = ![t.val, 0] :=
  (by decide +kernel : ∀ t : Fin grid8.N, _)

theorem call8 (c : Dev nD) : (dat8 V c).arrAt 2 cfg8.N = mmt (V c main_v19_2) (V c main_v3) := by
  refine (dat8 V c).arrAt_eq_of_covers 2 _ (by decide +kernel) fun t _ y => ?_
  blk_simp
  rw [after8_2]; frame_out
  pointwise [k8_pay1, mmt]
  blk_point [iblk8, idx8 t]

end Cert.Calls

end
-- ==== Proof.Call9.lean ====
/- The gradient of the down projection's weight. -/
module

public import proofs.«01_k».proof.Proof.Gen.KernelIdeal.Frame.Region9
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx9 : ∀ t : Fin cfg9.N, win9_0.index t = ![t.val, 0, 0] ∧ win9_1.index t = ![0, 0] ∧ win9_2.index t = ![t.val, 0] :=
  (by decide +kernel : ∀ t : Fin grid9.N, _)

theorem call9 (c : Dev nD) : (dat9 V c).arrAt 2 cfg9.N = blkTmm (V c main_v14_1) (V c main_v19_1) := by
  refine (dat9 V c).arrAt_eq_of_covers 2 _ (by decide +kernel) fun t _ y => ?_
  blk_simp
  rw [after9_2]; frame_out
  pointwise [k9_pay1, blkTmm, cb, cc]
  blk_point [iblk9, idx9 t]

end Cert.Calls

end
-- ==== Proof.Call10.lean ====
/- The gradient of the down projection with respect to its input, through SwiGLU, in column blocks. -/
module

public import proofs.«01_k».proof.Proof.Gen.KernelIdeal.Frame.Region10
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx10 : ∀ t : Fin cfg10.N, win10_0.index t = ![t.val / 4, 0] ∧ win10_1.index t = ![t.val % 4, 0] ∧ win10_2.index t = ![0, t.val % 4, t.val / 4, 0] ∧ win10_3.index t = ![0, t.val % 4, t.val / 4, 0] :=
  (by decide +kernel : ∀ t : Fin grid10.N, _)

theorem call10 (c : Dev nD) : (dat10 V c).arrAt 3 cfg10.N = dguBlk (V c main_v19_1) (V c main_v2) (V c main_v14_0) := by
  refine (dat10 V c).arrAt_eq_of_covers 3 _ (by decide +kernel) fun t _ y => ?_
  blk_simp
  rw [after10_3]
  canon_tiles x h
  · open_payloads; pointwise [k10_pay1, k10_pay2, k10_pay3, k10_pay4, dguBlk, dactBlk, dsiluK, sg, zero_sub]
    rw [if_neg (by blk_simp [idx10 t] <;> try omega)]
    blk_point [iblk10, idx10 t, cj]
  · open_payloads; pointwise [k10_pay1, k10_pay2, k10_pay3, k10_pay4, dguBlk, dactBlk, dsiluK, sg, zero_sub]
    rw [if_pos (by blk_simp [idx10 t] <;> try omega)]
    blk_point [iblk10, idx10 t, cj]

end Cert.Calls

end
-- ==== Proof.Call11.lean ====
/- The gradient of the gate and up projections' weight. -/
module

public import proofs.«01_k».proof.Proof.Gen.KernelIdeal.Frame.Region11
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx11 : ∀ t : Fin cfg11.N, win11_0.index t = ![0, 0] ∧ win11_1.index t = ![t.val, 0, 0] ∧ win11_2.index t = ![t.val, 0, 0] :=
  (by decide +kernel : ∀ t : Fin grid11.N, _)

theorem call11 (c : Dev nD) : (dat11 V c).arrAt 2 cfg11.N = tmmBlk (V c main_v13_1) (V c main_v23) := by
  refine (dat11 V c).arrAt_eq_of_covers 2 _ (by decide +kernel) fun t _ y => ?_
  blk_simp
  rw [after11_2]; frame_out
  pointwise [k11_pay1, tmmBlk]
  blk_point [iblk11, idx11 t]

end Cert.Calls

end
-- ==== Proof.Call12.lean ====
/- The gradient of the gate and up projections with respect to their input, a sum over eight column blocks. -/
module

public import proofs.«01_k».proof.Proof.Gen.KernelIdeal.Frame.Region12
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx12 : ∀ t : Fin cfg12.N, win12_0.index t = ![0, t.val, 0] ∧ win12_1.index t = ![0, 0, 0] ∧ win12_2.index t = ![t.val, 0] :=
  (by decide +kernel : ∀ t : Fin grid12.N, _)

theorem call12 (c : Dev nD) : (dat12 V c).arrAt 2 cfg12.N = blkMmt (V c main_v23) (V c main_v7) := by
  refine (dat12 V c).arrAt_eq_of_covers 2 _ (by decide +kernel) fun t _ y => ?_
  blk_simp
  rw [after12_2]; frame_out
  pointwise [k12_pay1, k12_pay2, k12_pay3, blkMmt, Fin.sum_univ_eight]
  blk_point [iblk12, idx12 t]

end Cert.Calls

end
-- ==== Proof.Call13.lean ====
/- The first layer norm's gradient. -/
module

public import proofs.«01_k».proof.Proof.Gen.KernelIdeal.Frame.Region13
public import proofs.«01_k».proof.Proof.LnBlk
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx13 : ∀ t : Fin cfg13.N, win13_0.index t = ![t.val, 0] ∧ win13_1.index t = ![t.val, 0] ∧ win13_2.index t = ![0, 0] ∧ win13_3.index t = ![0, 0] ∧ win13_4.index t = ![t.val, 0] ∧ win13_5.index t = ![t.val, 0] ∧ win13_6.index t = ![t.val, 0] ∧ win13_7.index t = ![t.val, 0] ∧ win13_8.index t = ![t.val, 0] ∧ win13_9.index t = ![0, 0] ∧ win13_10.index t = ![0, 0] :=
  (by decide +kernel : ∀ t : Fin grid13.N, _)

/-- The sum of three matrices. -/
def sum3 {m n : Nat} (a b d : Mat m n) : Mat m n := fun i => (a i + b i) + d i

theorem pay13_D (v0 v1 v5 v7 v10 : FVec Ideal S512x1024 .f32) (g : FVec Ideal S1x1024 .f32) :
    k13_pay10 (F := Ideal) (k13_pay2 g) (k13_pay3 v5 v7 v10) (k13_pay4 v0 v1) (k13_pay6 v0 v1) (k13_pay7 v0 v1)
      = lnK (x1F v0 v1) (fun j => g (ix2 0 j)) (sum3 v5 v7 v10) := by
  rw [k13_ct]; exact k13_D _ _ _ _

theorem pay13_7 (v12 v21 : FVec Ideal S512x1024 .f32) (g : FVec Ideal S1x1024 .f32) (v29 v32 : FVec Ideal S512x1 .f32) (i) :
    k13_pay11 (F := Ideal) g v12 v21 v29 v32 i = cAlpha * k13_pay10 g v12 v21 v29 v32 i := by
  pointwise [k13_pay11, cAlpha]

theorem pay13_8 (v12 v21 : FVec Ideal S512x1024 .f32) (g : FVec Ideal S1x1024 .f32) (v29 v32 : FVec Ideal S512x1 .f32) (i) :
    k13_pay12 (F := Ideal) g v12 v21 v29 v32 i = k13_pay10 g v12 v21 v29 v32 i := by
  pointwise [k13_pay12]

theorem pay13_9 (v0 v1 v5 v7 v10 : FVec Ideal S512x1024 .f32) (P : FVec Ideal S1x1024 .f32) (j : S1x1024.Idx) :
    k13_pay15 (F := Ideal) (k13_pay9 v0 v1 v5 v7 v10) P j
      = P j + ∑ r : Fin 512, nrm (x1F v0 v1) (ix2 r (j 1)) * sum3 v5 v7 v10 (ix2 r (j 1)) := by
  rw [k13_dg]
  idx_vars j
  pointwise [k13_pay15, sum3]

theorem pay13_10 (v5 v7 v10 : FVec Ideal S512x1024 .f32) (P : FVec Ideal S1x1024 .f32) (j : S1x1024.Idx) :
    k13_pay1 (F := Ideal) (k13_pay8 v5 v7 v10) P j
      = P j + ∑ r : Fin 512, sum3 v5 v7 v10 (ix2 r (j 1)) := by
  unfold k13_pay8; rw [k13_ct]
  idx_vars j
  pointwise [k13_pay1, sum3]

theorem pay13_13 (j) : k13_pay13 (F := Ideal) j = 0 := by pointwise [k13_pay13]
theorem pay13_14 (j) : k13_pay14 (F := Ideal) j = 0 := by pointwise [k13_pay14]

/-- The norm's input over the blocks at point `t`. -/
abbrev xb13 (c : Dev nD) (t : Fin cfg13.N) : Mat 512 1024 := x1F (iblk13 V c 0 t) (iblk13 V c 1 t)
/-- The norm's input over the arrays. -/
abbrev xv13 (c : Dev nD) : Mat 4096 1024 := x1F (V c main_arg0) (V c main_v12)
/-- The norm's cotangent over the blocks at point `t`. -/
abbrev cb13 (c : Dev nD) (t : Fin cfg13.N) : Mat 512 1024 := sum3 (iblk13 V c 4 t) (iblk13 V c 5 t) (iblk13 V c 6 t)
/-- The norm's cotangent over the arrays. -/
abbrev cv13 (c : Dev nD) : Mat 4096 1024 := sum3 (V c main_v19_0) (V c main_v20) (V c main_v25)

theorem rows13 (c : Dev nD) (t : Fin cfg13.N) (i : Fin 512) (j : Fin 4096) (h : j.val = t.val * 512 + i.val) (l : Fin 1024) :
    xb13 V c t (ix2 i l) = xv13 V c (ix2 j l) := by
  unfold xb13 xv13 x1F
  blk_point [iblk13, idx13 t]

theorem cots13 (c : Dev nD) (t : Fin cfg13.N) (i : Fin 512) (j : Fin 4096) (h : j.val = t.val * 512 + i.val) (l : Fin 1024) :
    cb13 V c t (ix2 i l) = cv13 V c (ix2 j l) := by
  refine congrArg₂ (· + ·) (congrArg₂ (· + ·) ?_ ?_) ?_ <;> blk_point [iblk13, idx13 t]

theorem out13 (c : Dev nD) (t : Fin cfg13.N) (y : S512x1024.Idx) (z : S4096x1024.Idx) (h0 : (z 0).val = t.val * 512 + (y 0).val)
    (h1 : (z 1).val = (y 1).val) :
    lnK (xb13 V c t) (fun j => iblk13 V c 2 t (ix2 0 j)) (cb13 V c t) y
      = lnK (xv13 V c) (fun j => V c main_v8 (ix2 0 j)) (cv13 V c) z := by
  have hz : z = ix2 (z 0) (y 1) := by blk_ext
  rw [hz]
  refine Eq.trans (congrArg _ (eq_ix2 y)) (lnK_row (fun l => rows13 V c t (y 0) (z 0) h0 l) (fun l => ?_)
    (fun l => cots13 V c t (y 0) (z 0) h0 l) (y 1))
  blk_point [iblk13, idx13 t]

theorem call13_7 (c : Dev nD) : (dat13 V c).arrAt 7 cfg13.N = fun i => cAlpha * lnK (xv13 V c) (fun j => V c main_v8 (ix2 0 j)) (cv13 V c) i := by
  refine (dat13 V c).arrAt_eq_of_covers 7 _ (by decide +kernel) fun t _ y => ?_
  blk_simp
  have hy := out13 V c t y (((View.whole main_v26_0).slice (win13_7.rect t)).emb y) (by blk_simp [idx13 t]) (by blk_simp [idx13 t])
  rw [after13_7]
  by_cases h : t.val % 8 = 0
  · rw [outsAt13_A V c t h]; frame_out
    rw [pay13_7, pay13_D]; exact congrArg (cAlpha * ·) hy
  · rw [outsAt13_B V c t h]; frame_out
    rw [pay13_7, pay13_D]; exact congrArg (cAlpha * ·) hy

theorem call13_8 (c : Dev nD) : (dat13 V c).arrAt 8 cfg13.N = lnK (xv13 V c) (fun j => V c main_v8 (ix2 0 j)) (cv13 V c) := by
  refine (dat13 V c).arrAt_eq_of_covers 8 _ (by decide +kernel) fun t _ y => ?_
  blk_simp
  have hy := out13 V c t y (((View.whole main_v26_1).slice (win13_8.rect t)).emb y) (by blk_simp [idx13 t]) (by blk_simp [idx13 t])
  rw [after13_8]
  by_cases h : t.val % 8 = 0
  · rw [outsAt13_A V c t h]; frame_out
    rw [pay13_8, pay13_D]; exact hy
  · rw [outsAt13_B V c t h]; frame_out
    rw [pay13_8, pay13_D]; exact hy

theorem call13_9 (c : Dev nD) : (dat13 V c).arrAt 9 cfg13.N = fun i => lnDg (xv13 V c) (cv13 V c) (ix1 (i 1)) := by
  refine (dat13 V c).arrAt_eq_of_after_last 9 t13_7 (by decide +kernel) _ fun j => ?_
  blk_simp
  rw [after13_9, Pipeline.eq_sum_fin_of_reset_step_apply_last (fun n h => (outsAt13 V c n h).2.2.1) 8 (fun _ => 0)
    (fun t j => ∑ r : Fin 512, nrm (xb13 V c t) (ix2 r (j 1)) * cb13 V c t (ix2 r (j 1)))
    (fun t h j => by rw [outsAt13_A V c t h]; frame_out; rw [pay13_9, pay13_13])
    (fun t h j => by rw [outsAt13_B V c t h]; frame_out; rw [pay13_9])
    (le_of_eq N_13) t13_7 rfl j, zero_add]
  refine Fin.sum_mul_add_congr fun s k hl => ?_
  exact congrArg₂ (· * ·) (nrm_row (fun l => rows13 V c s k _ rfl l) _) (cots13 V c s k _ rfl _)

theorem call13_10 (c : Dev nD) : (dat13 V c).arrAt 10 cfg13.N = fun i => lnDb (cv13 V c) (ix1 (i 1)) := by
  refine (dat13 V c).arrAt_eq_of_after_last 10 t13_7 (by decide +kernel) _ fun j => ?_
  blk_simp
  rw [after13_10, Pipeline.eq_sum_fin_of_reset_step_apply_last (fun n h => (outsAt13 V c n h).2.2.2) 8 (fun _ => 0)
    (fun t j => ∑ r : Fin 512, cb13 V c t (ix2 r (j 1)))
    (fun t h j => by rw [outsAt13_A V c t h]; frame_out; rw [pay13_10, pay13_14])
    (fun t h j => by rw [outsAt13_B V c t h]; frame_out; rw [pay13_10])
    (le_of_eq N_13) t13_7 rfl j, zero_add]
  refine Fin.sum_mul_add_congr fun s k hl => ?_
  exact cots13 V c s k _ rfl _

end Cert.Calls

end
-- ==== Proof.Call14.lean ====
/- The gradient of the mixers' output projection with respect to its input. -/
module

public import proofs.«01_k».proof.Proof.Gen.KernelIdeal.Frame.Region14
public import proofs.«01_k».proof.Proof.Blocks
public import Idealize.ShloMosaic.Lib.Pipeline.ValueKit
public import Idealize.ShloMosaic.Lib.Pointwise

@[expose] public section

set_option maxRecDepth 16384

noncomputable section

namespace Cert.Calls

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx14 : ∀ t : Fin cfg14.N, win14_0.index t = ![t.val, 0] ∧ win14_1.index t = ![0, 0] ∧ win14_2.index t = ![t.val, 0] :=
  (by decide +kernel : ∀ t : Fin grid14.N, _)

theorem call14 (c : Dev nD) : (dat14 V c).arrAt 2 cfg14.N = mmt (V c main_v26_1) (V c main_v1) := by
  refine (dat14 V c).arrAt_eq_of_covers 2 _ (by decide +kernel) fun t _ y => ?_
  blk_simp
  rw [after14_2]; frame_out
  pointwise [k14_pay1, mmt]
  blk_point [iblk14, idx14 t]

end Cert.Calls

end
-- ==== Proof.Chain.lean ====
/-
  The kernel's buffers, region after region, in the terms of Proof/Spec.lean.  `h_` a host operation's result, `s_` a
  region's result at the region's exit, `g` the same at the entry of a later region, `f_` at the end.
-/
module

public import proofs.«01_k».proof.Proof.Gen.KernelIdeal.Frame
public import proofs.«01_k».proof.Proof.Layout
public import proofs.«01_k».proof.Proof.Call0
public import proofs.«01_k».proof.Proof.Call1
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Call8
public import proofs.«01_k».proof.Proof.Call9
public import proofs.«01_k».proof.Proof.Call10
public import proofs.«01_k».proof.Proof.Call11
public import proofs.«01_k».proof.Proof.Call12
public import proofs.«01_k».proof.Proof.Call13
public import proofs.«01_k».proof.Proof.Call14

@[expose] public section

set_option maxRecDepth 16384

noncomputable section

namespace Cert.Chain

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

/-- The arguments on device `c`. -/
abbrev A : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12)⟩

theorem h_v0 : V1 m ρ c main_v0 = (A m c).cat := by
  unfold_abbrev_sides
  after_results
  rfl

theorem h_v1 : V1 m ρ c main_v1 = (A m c).wo := by
  unfold_abbrev_sides
  after_results
  rfl

theorem h_v2 : V1 m ρ c main_v2 = (A m c).wd := by
  unfold_abbrev_sides
  after_results
  rfl

theorem h_v3 : V1 m ρ c main_v3 = (A m c).wpg := by
  unfold_abbrev_sides
  after_results
  rfl

theorem h_v4 : V1 m ρ c main_v4 = (A m c).wpp := by
  unfold_abbrev_sides
  after_results
  rfl

theorem h_v7 : V1 m ρ c main_v7 = blk 8 rfl (A m c).wgu := by
  unfold_abbrev_sides
  after_results
  exact wgu_blk _ _ _

theorem h_v8 : V1 m ρ c main_v8 = fun i => (A m c).g1 (ix1 (i 1)) := by
  unfold_abbrev_sides
  after_results
  exact row_of _ _

theorem h_v9 : V1 m ρ c main_v9 = fun i => (A m c).b1 (ix1 (i 1)) := by
  unfold_abbrev_sides
  after_results
  exact row_of _ _

theorem h_v10 : V1 m ρ c main_v10 = fun i => (A m c).g2 (ix1 (i 1)) := by
  unfold_abbrev_sides
  after_results
  exact row_of _ _

theorem h_v11 : V1 m ρ c main_v11 = fun i => (A m c).b2 (ix1 (i 1)) := by
  unfold_abbrev_sides
  after_results
  exact row_of _ _

theorem g1_v0 : V1 m ρ c main_v0 = (A m c).cat := h_v0 m ρ c

theorem g1_v1 : V1 m ρ c main_v1 = (A m c).wo := h_v1 m ρ c

theorem s_v12 : W2 m ρ c (Proc.devRef .tc main_v12) = (A m c).mix := by
  refine (W2_arr m ρ c 2).trans ((Calls.call0 (V1 m ρ) c).trans ?_)
  rw [g1_v0 m ρ c, g1_v1 m ρ c]
  rfl

theorem g2_arg0 : V2 m ρ c main_arg0 = (A m c).h := W2_args m ρ c _ (by decide)

theorem g2_v12 : V2 m ρ c main_v12 = (A m c).mix := s_v12 m ρ c

theorem g2_v8 : V2 m ρ c main_v8 = fun i => (A m c).g1 (ix1 (i 1)) := by
  show W2 m ρ c (Proc.devRef .tc main_v8) = _
  rw [W2_of m ρ c main_v8 (by decide +kernel)]
  exact h_v8 m ρ c

theorem g2_v9 : V2 m ρ c main_v9 = fun i => (A m c).b1 (ix1 (i 1)) := by
  show W2 m ρ c (Proc.devRef .tc main_v9) = _
  rw [W2_of m ρ c main_v9 (by decide +kernel)]
  exact h_v9 m ρ c

theorem s_v13_0 : W3 m ρ c (Proc.devRef .tc main_v13_0) = (A m c).H1 := by
  refine (W3_arr m ρ c 4).trans ((Calls.call1_4 (V2 m ρ) c).trans ?_)
  rw [g2_arg0 m ρ c, g2_v12 m ρ c, g2_v8 m ρ c, g2_v9 m ρ c]
  rfl

theorem s_v13_1 : W3 m ρ c (Proc.devRef .tc main_v13_1) = (A m c).H1 := by
  refine (W3_arr m ρ c 5).trans ((Calls.call1_5 (V2 m ρ) c).trans ?_)
  rw [g2_arg0 m ρ c, g2_v12 m ρ c, g2_v8 m ρ c, g2_v9 m ρ c]
  rfl

theorem g3_v13_1 : V3 m ρ c main_v13_1 = (A m c).H1 := s_v13_1 m ρ c

theorem g3_v7 : V3 m ρ c main_v7 = blk 8 rfl (A m c).wgu := by
  show W3 m ρ c (Proc.devRef .tc main_v7) = _
  rw [W3_of m ρ c main_v7 (by decide +kernel), W2_of m ρ c main_v7 (by decide +kernel)]
  exact h_v7 m ρ c

theorem s_v14_0 : W4 m ρ c (Proc.devRef .tc main_v14_0) = guBlk (A m c).H1 (blk 8 rfl (A m c).wgu) := by
  refine (W4_arr m ρ c 3).trans ((Calls.call2_3 (V3 m ρ) c).trans ?_)
  rw [g3_v13_1 m ρ c, g3_v7 m ρ c]

theorem s_v14_1 : W4 m ρ c (Proc.devRef .tc main_v14_1) = blk 4 rfl (A m c).act := by
  refine (W4_arr m ρ c 4).trans ((Calls.call2_4 (V3 m ρ) c).trans ?_)
  rw [g3_v13_1 m ρ c, g3_v7 m ρ c]
  exact actBlk_eq _

theorem g4_v14_1 : V4 m ρ c main_v14_1 = blk 4 rfl (A m c).act := s_v14_1 m ρ c

theorem g4_v2 : V4 m ρ c main_v2 = (A m c).wd := by
  show W4 m ρ c (Proc.devRef .tc main_v2) = _
  rw [W4_of m ρ c main_v2 (by decide +kernel), W3_of m ρ c main_v2 (by decide +kernel), W2_of m ρ c main_v2 (by decide +kernel)]
  exact h_v2 m ρ c

theorem s_v15 : W5 m ρ c (Proc.devRef .tc main_v15) = (A m c).FF := by
  refine (W5_arr m ρ c 2).trans ((Calls.call3 (V4 m ρ) c).trans ?_)
  rw [g4_v14_1 m ρ c, g4_v2 m ρ c]
  exact blkMm_eq _ _

theorem g5_v13_1 : V5 m ρ c main_v13_1 = (A m c).H1 := by
  show W5 m ρ c (Proc.devRef .tc main_v13_1) = _
  rw [W5_of m ρ c main_v13_1 (by decide +kernel), W4_of m ρ c main_v13_1 (by decide +kernel)]
  exact s_v13_1 m ρ c

theorem g5_v3 : V5 m ρ c main_v3 = (A m c).wpg := by
  show W5 m ρ c (Proc.devRef .tc main_v3) = _
  rw [W5_of m ρ c main_v3 (by decide +kernel), W4_of m ρ c main_v3 (by decide +kernel), W3_of m ρ c main_v3 (by decide +kernel), W2_of m ρ c main_v3 (by decide +kernel)]
  exact h_v3 m ρ c

theorem s_v16 : W6 m ρ c (Proc.devRef .tc main_v16) = (A m c).PG := by
  refine (W6_arr m ρ c 2).trans ((Calls.call4 (V5 m ρ) c).trans ?_)
  rw [g5_v13_1 m ρ c, g5_v3 m ρ c]
  rfl

theorem g6_arg2 : V6 m ρ c main_arg2 = (A m c).p := W6_args m ρ c _ (by decide)

theorem g6_v4 : V6 m ρ c main_v4 = (A m c).wpp := by
  show W6 m ρ c (Proc.devRef .tc main_v4) = _
  rw [W6_of m ρ c main_v4 (by decide +kernel), W5_of m ρ c main_v4 (by decide +kernel), W4_of m ρ c main_v4 (by decide +kernel), W3_of m ρ c main_v4 (by decide +kernel), W2_of m ρ c main_v4 (by decide +kernel)]
  exact h_v4 m ρ c

theorem s_v17 : W7 m ρ c (Proc.devRef .tc main_v17) = (A m c).PP := by
  refine (W7_arr m ρ c 2).trans ((Calls.call5 (V6 m ρ) c).trans ?_)
  rw [g6_arg2 m ρ c, g6_v4 m ρ c]
  rfl

theorem g7_v13_0 : V7 m ρ c main_v13_0 = (A m c).H1 := by
  show W7 m ρ c (Proc.devRef .tc main_v13_0) = _
  rw [W7_of m ρ c main_v13_0 (by decide +kernel), W6_of m ρ c main_v13_0 (by decide +kernel), W5_of m ρ c main_v13_0 (by decide +kernel), W4_of m ρ c main_v13_0 (by decide +kernel)]
  exact s_v13_0 m ρ c

theorem g7_v15 : V7 m ρ c main_v15 = (A m c).FF := by
  show W7 m ρ c (Proc.devRef .tc main_v15) = _
  rw [W7_of m ρ c main_v15 (by decide +kernel), W6_of m ρ c main_v15 (by decide +kernel)]
  exact s_v15 m ρ c

theorem g7_v16 : V7 m ρ c main_v16 = (A m c).PG := by
  show W7 m ρ c (Proc.devRef .tc main_v16) = _
  rw [W7_of m ρ c main_v16 (by decide +kernel)]
  exact s_v16 m ρ c

theorem g7_v17 : V7 m ρ c main_v17 = (A m c).PP := s_v17 m ρ c

theorem g7_v10 : V7 m ρ c main_v10 = fun i => (A m c).g2 (ix1 (i 1)) := by
  show W7 m ρ c (Proc.devRef .tc main_v10) = _
  rw [W7_of m ρ c main_v10 (by decide +kernel), W6_of m ρ c main_v10 (by decide +kernel), W5_of m ρ c main_v10 (by decide +kernel), W4_of m ρ c main_v10 (by decide +kernel), W3_of m ρ c main_v10 (by decide +kernel), W2_of m ρ c main_v10 (by decide +kernel)]
  exact h_v10 m ρ c

theorem g7_v11 : V7 m ρ c main_v11 = fun i => (A m c).b2 (ix1 (i 1)) := by
  show W7 m ρ c (Proc.devRef .tc main_v11) = _
  rw [W7_of m ρ c main_v11 (by decide +kernel), W6_of m ρ c main_v11 (by decide +kernel), W5_of m ρ c main_v11 (by decide +kernel), W4_of m ρ c main_v11 (by decide +kernel), W3_of m ρ c main_v11 (by decide +kernel), W2_of m ρ c main_v11 (by decide +kernel)]
  exact h_v11 m ρ c

theorem s_v18_0 : W8 m ρ c (Proc.devRef .tc main_v18_0) = (A m c).Y := by
  refine (W8_arr m ρ c 6).trans ((Calls.call6_6 (V7 m ρ) c).trans ?_)
  rw [g7_v13_0 m ρ c, g7_v15 m ρ c, g7_v16 m ρ c, g7_v17 m ρ c, g7_v10 m ρ c, g7_v11 m ρ c]
  rfl

theorem g8_v13_0 : V8 m ρ c main_v13_0 = (A m c).H1 := by
  show W8 m ρ c (Proc.devRef .tc main_v13_0) = _
  rw [W8_of m ρ c main_v13_0 (by decide +kernel), W7_of m ρ c main_v13_0 (by decide +kernel), W6_of m ρ c main_v13_0 (by decide +kernel), W5_of m ρ c main_v13_0 (by decide +kernel), W4_of m ρ c main_v13_0 (by decide +kernel)]
  exact s_v13_0 m ρ c

theorem g8_v15 : V8 m ρ c main_v15 = (A m c).FF := by
  show W8 m ρ c (Proc.devRef .tc main_v15) = _
  rw [W8_of m ρ c main_v15 (by decide +kernel), W7_of m ρ c main_v15 (by decide +kernel), W6_of m ρ c main_v15 (by decide +kernel)]
  exact s_v15 m ρ c

theorem g8_v16 : V8 m ρ c main_v16 = (A m c).PG := by
  show W8 m ρ c (Proc.devRef .tc main_v16) = _
  rw [W8_of m ρ c main_v16 (by decide +kernel), W7_of m ρ c main_v16 (by decide +kernel)]
  exact s_v16 m ρ c

theorem g8_v17 : V8 m ρ c main_v17 = (A m c).PP := by
  show W8 m ρ c (Proc.devRef .tc main_v17) = _
  rw [W8_of m ρ c main_v17 (by decide +kernel)]
  exact s_v17 m ρ c

theorem g8_v10 : V8 m ρ c main_v10 = fun i => (A m c).g2 (ix1 (i 1)) := by
  show W8 m ρ c (Proc.devRef .tc main_v10) = _
  rw [W8_of m ρ c main_v10 (by decide +kernel), W7_of m ρ c main_v10 (by decide +kernel), W6_of m ρ c main_v10 (by decide +kernel), W5_of m ρ c main_v10 (by decide +kernel), W4_of m ρ c main_v10 (by decide +kernel), W3_of m ρ c main_v10 (by decide +kernel), W2_of m ρ c main_v10 (by decide +kernel)]
  exact h_v10 m ρ c

theorem g8_arg12 : V8 m ρ c main_arg12 = (A m c).dy := W8_args m ρ c _ (by decide)

theorem s_v19_0 (ha : (A m c).Real) : W9 m ρ c (Proc.devRef .tc main_v19_0) = fun i => cAlpha * (A m c).D2 i := by
  refine (W9_arr m ρ c 7).trans ((Calls.call7_7 (V8 m ρ) c).trans ?_)
  unfold Calls.xv7 Calls.cv7
  rw [g8_v13_0 m ρ c, g8_v15 m ρ c, g8_v16 m ρ c, g8_v17 m ρ c, g8_v10 m ρ c, g8_arg12 m ρ c]
  exact congrArg (fun D : Mat 4096 1024 => fun i => cAlpha * D i) (lnK_eq (Args.X2_re ha) (fun _ => ha.g2 _) ha.dy)

theorem s_v19_1 (ha : (A m c).Real) : W9 m ρ c (Proc.devRef .tc main_v19_1) = (A m c).D2 := by
  refine (W9_arr m ρ c 8).trans ((Calls.call7_8 (V8 m ρ) c).trans ?_)
  unfold Calls.xv7 Calls.cv7
  rw [g8_v13_0 m ρ c, g8_v15 m ρ c, g8_v16 m ρ c, g8_v17 m ρ c, g8_v10 m ρ c, g8_arg12 m ρ c]
  exact lnK_eq (Args.X2_re ha) (fun _ => ha.g2 _) ha.dy

theorem s_v19_2 (ha : (A m c).Real) : W9 m ρ c (Proc.devRef .tc main_v19_2) = (A m c).DZ := by
  refine (W9_arr m ρ c 9).trans ((Calls.call7_9 (V8 m ρ) c).trans ?_)
  unfold Calls.xv7 Calls.cv7
  rw [g8_v13_0 m ρ c, g8_v15 m ρ c, g8_v16 m ρ c, g8_v17 m ρ c, g8_v10 m ρ c, g8_arg12 m ρ c]
  funext i
  refine (congrArg (fun D : Mat 4096 1024 => dsgK (D i * (A m c).PP i) ((A m c).PG i)) (lnK_eq (Args.X2_re ha) (fun _ => ha.g2 _) ha.dy)).trans ?_
  exact dsgK_eq ((Args.D2_re ha i).mul (Args.PP_re ha i)) (Args.PG_re ha i)

theorem s_v19_4 : W9 m ρ c (Proc.devRef .tc main_v19_4) = fun i => lnDg (A m c).X2 (A m c).dy (ix1 (i 1)) := by
  refine (W9_arr m ρ c 11).trans ((Calls.call7_11 (V8 m ρ) c).trans ?_)
  unfold Calls.xv7 Calls.cv7
  rw [g8_v13_0 m ρ c, g8_v15 m ρ c, g8_v16 m ρ c, g8_v17 m ρ c, g8_arg12 m ρ c]
  rfl

theorem s_v19_5 : W9 m ρ c (Proc.devRef .tc main_v19_5) = fun i => lnDb (A m c).dy (ix1 (i 1)) := by
  refine (W9_arr m ρ c 12).trans ((Calls.call7_12 (V8 m ρ) c).trans ?_)
  unfold Calls.cv7
  rw [g8_arg12 m ρ c]

theorem g9_v19_2 (ha : (A m c).Real) : V9 m ρ c main_v19_2 = (A m c).DZ := s_v19_2 m ρ c ha

theorem g9_v3 : V9 m ρ c main_v3 = (A m c).wpg := by
  show W9 m ρ c (Proc.devRef .tc main_v3) = _
  rw [W9_of m ρ c main_v3 (by decide +kernel), W8_of m ρ c main_v3 (by decide +kernel), W7_of m ρ c main_v3 (by decide +kernel), W6_of m ρ c main_v3 (by decide +kernel), W5_of m ρ c main_v3 (by decide +kernel), W4_of m ρ c main_v3 (by decide +kernel), W3_of m ρ c main_v3 (by decide +kernel), W2_of m ρ c main_v3 (by decide +kernel)]
  exact h_v3 m ρ c

theorem s_v20 (ha : (A m c).Real) : W10 m ρ c (Proc.devRef .tc main_v20) = mmt (A m c).DZ (A m c).wpg := by
  refine (W10_arr m ρ c 2).trans ((Calls.call8 (V9 m ρ) c).trans ?_)
  rw [g9_v19_2 m ρ c ha, g9_v3 m ρ c]

theorem g10_v14_1 : V10 m ρ c main_v14_1 = blk 4 rfl (A m c).act := by
  show W10 m ρ c (Proc.devRef .tc main_v14_1) = _
  rw [W10_of m ρ c main_v14_1 (by decide +kernel), W9_of m ρ c main_v14_1 (by decide +kernel), W8_of m ρ c main_v14_1 (by decide +kernel), W7_of m ρ c main_v14_1 (by decide +kernel), W6_of m ρ c main_v14_1 (by decide +kernel), W5_of m ρ c main_v14_1 (by decide +kernel)]
  exact s_v14_1 m ρ c

theorem g10_v19_1 (ha : (A m c).Real) : V10 m ρ c main_v19_1 = (A m c).D2 := by
  show W10 m ρ c (Proc.devRef .tc main_v19_1) = _
  rw [W10_of m ρ c main_v19_1 (by decide +kernel)]
  exact s_v19_1 m ρ c ha

theorem s_v21 (ha : (A m c).Real) : W11 m ρ c (Proc.devRef .tc main_v21) = tmm (A m c).act (A m c).D2 := by
  refine (W11_arr m ρ c 2).trans ((Calls.call9 (V10 m ρ) c).trans ?_)
  rw [g10_v14_1 m ρ c, g10_v19_1 m ρ c ha]
  exact blkTmm_eq _ _

theorem g11_v19_1 (ha : (A m c).Real) : V11 m ρ c main_v19_1 = (A m c).D2 := by
  show W11 m ρ c (Proc.devRef .tc main_v19_1) = _
  rw [W11_of m ρ c main_v19_1 (by decide +kernel), W10_of m ρ c main_v19_1 (by decide +kernel)]
  exact s_v19_1 m ρ c ha

theorem g11_v2 : V11 m ρ c main_v2 = (A m c).wd := by
  show W11 m ρ c (Proc.devRef .tc main_v2) = _
  rw [W11_of m ρ c main_v2 (by decide +kernel), W10_of m ρ c main_v2 (by decide +kernel), W9_of m ρ c main_v2 (by decide +kernel), W8_of m ρ c main_v2 (by decide +kernel), W7_of m ρ c main_v2 (by decide +kernel), W6_of m ρ c main_v2 (by decide +kernel), W5_of m ρ c main_v2 (by decide +kernel), W4_of m ρ c main_v2 (by decide +kernel), W3_of m ρ c main_v2 (by decide +kernel), W2_of m ρ c main_v2 (by decide +kernel)]
  exact h_v2 m ρ c

theorem g11_v14_0 : V11 m ρ c main_v14_0 = guBlk (A m c).H1 (blk 8 rfl (A m c).wgu) := by
  show W11 m ρ c (Proc.devRef .tc main_v14_0) = _
  rw [W11_of m ρ c main_v14_0 (by decide +kernel), W10_of m ρ c main_v14_0 (by decide +kernel), W9_of m ρ c main_v14_0 (by decide +kernel), W8_of m ρ c main_v14_0 (by decide +kernel), W7_of m ρ c main_v14_0 (by decide +kernel), W6_of m ρ c main_v14_0 (by decide +kernel), W5_of m ρ c main_v14_0 (by decide +kernel)]
  exact s_v14_0 m ρ c

theorem s_v22 (ha : (A m c).Real) : W12 m ρ c (Proc.devRef .tc main_v22) = dguBlk (A m c).D2 (A m c).wd (guBlk (A m c).H1 (blk 8 rfl (A m c).wgu)) := by
  refine (W12_arr m ρ c 3).trans ((Calls.call10 (V11 m ρ) c).trans ?_)
  rw [g11_v19_1 m ρ c ha, g11_v2 m ρ c, g11_v14_0 m ρ c]

theorem h_v23 (ha : (A m c).Real) : W13 m ρ c (Proc.devRef .tc main_v23) = blk 8 rfl (A m c).DGU := by
  unfold_abbrev_sides
  after_results
  rw [s_v22 m ρ c ha]
  exact dguBlk_eq ha _

theorem g13_v13_1 : V13 m ρ c main_v13_1 = (A m c).H1 := by
  show W13 m ρ c (Proc.devRef .tc main_v13_1) = _
  rw [W13_of m ρ c main_v13_1 (by decide +kernel), W12_of m ρ c main_v13_1 (by decide +kernel), W11_of m ρ c main_v13_1 (by decide +kernel), W10_of m ρ c main_v13_1 (by decide +kernel), W9_of m ρ c main_v13_1 (by decide +kernel), W8_of m ρ c main_v13_1 (by decide +kernel), W7_of m ρ c main_v13_1 (by decide +kernel), W6_of m ρ c main_v13_1 (by decide +kernel), W5_of m ρ c main_v13_1 (by decide +kernel), W4_of m ρ c main_v13_1 (by decide +kernel)]
  exact s_v13_1 m ρ c

theorem g13_v23 (ha : (A m c).Real) : V13 m ρ c main_v23 = blk 8 rfl (A m c).DGU := h_v23 m ρ c ha

theorem s_v24 (ha : (A m c).Real) : W14 m ρ c (Proc.devRef .tc main_v24) = blk 8 rfl (tmm (A m c).H1 (A m c).DGU) := by
  refine (W14_arr m ρ c 2).trans ((Calls.call11 (V13 m ρ) c).trans ?_)
  rw [g13_v13_1 m ρ c, g13_v23 m ρ c ha]
  rfl

theorem g14_v23 (ha : (A m c).Real) : V14 m ρ c main_v23 = blk 8 rfl (A m c).DGU := by
  show W14 m ρ c (Proc.devRef .tc main_v23) = _
  rw [W14_of m ρ c main_v23 (by decide +kernel)]
  exact h_v23 m ρ c ha

theorem g14_v7 : V14 m ρ c main_v7 = blk 8 rfl (A m c).wgu := by
  show W14 m ρ c (Proc.devRef .tc main_v7) = _
  rw [W14_of m ρ c main_v7 (by decide +kernel), W13_of m ρ c main_v7 (by decide +kernel), W12_of m ρ c main_v7 (by decide +kernel), W11_of m ρ c main_v7 (by decide +kernel), W10_of m ρ c main_v7 (by decide +kernel), W9_of m ρ c main_v7 (by decide +kernel), W8_of m ρ c main_v7 (by decide +kernel), W7_of m ρ c main_v7 (by decide +kernel), W6_of m ρ c main_v7 (by decide +kernel), W5_of m ρ c main_v7 (by decide +kernel), W4_of m ρ c main_v7 (by decide +kernel), W3_of m ρ c main_v7 (by decide +kernel), W2_of m ρ c main_v7 (by decide +kernel)]
  exact h_v7 m ρ c

theorem s_v25 (ha : (A m c).Real) : W15 m ρ c (Proc.devRef .tc main_v25) = mmt (A m c).DGU (A m c).wgu := by
  refine (W15_arr m ρ c 2).trans ((Calls.call12 (V14 m ρ) c).trans ?_)
  rw [g14_v23 m ρ c ha, g14_v7 m ρ c]
  exact blkMmt_eq _ _

theorem g15_arg0 : V15 m ρ c main_arg0 = (A m c).h := W15_args m ρ c _ (by decide)

theorem g15_v12 : V15 m ρ c main_v12 = (A m c).mix := by
  show W15 m ρ c (Proc.devRef .tc main_v12) = _
  rw [W15_of m ρ c main_v12 (by decide +kernel), W14_of m ρ c main_v12 (by decide +kernel), W13_of m ρ c main_v12 (by decide +kernel), W12_of m ρ c main_v12 (by decide +kernel), W11_of m ρ c main_v12 (by decide +kernel), W10_of m ρ c main_v12 (by decide +kernel), W9_of m ρ c main_v12 (by decide +kernel), W8_of m ρ c main_v12 (by decide +kernel), W7_of m ρ c main_v12 (by decide +kernel), W6_of m ρ c main_v12 (by decide +kernel), W5_of m ρ c main_v12 (by decide +kernel), W4_of m ρ c main_v12 (by decide +kernel), W3_of m ρ c main_v12 (by decide +kernel)]
  exact s_v12 m ρ c

theorem g15_v8 : V15 m ρ c main_v8 = fun i => (A m c).g1 (ix1 (i 1)) := by
  show W15 m ρ c (Proc.devRef .tc main_v8) = _
  rw [W15_of m ρ c main_v8 (by decide +kernel), W14_of m ρ c main_v8 (by decide +kernel), W13_of m ρ c main_v8 (by decide +kernel), W12_of m ρ c main_v8 (by decide +kernel), W11_of m ρ c main_v8 (by decide +kernel), W10_of m ρ c main_v8 (by decide +kernel), W9_of m ρ c main_v8 (by decide +kernel), W8_of m ρ c main_v8 (by decide +kernel), W7_of m ρ c main_v8 (by decide +kernel), W6_of m ρ c main_v8 (by decide +kernel), W5_of m ρ c main_v8 (by decide +kernel), W4_of m ρ c main_v8 (by decide +kernel), W3_of m ρ c main_v8 (by decide +kernel), W2_of m ρ c main_v8 (by decide +kernel)]
  exact h_v8 m ρ c

theorem g15_v19_0 (ha : (A m c).Real) : V15 m ρ c main_v19_0 = fun i => cAlpha * (A m c).D2 i := by
  show W15 m ρ c (Proc.devRef .tc main_v19_0) = _
  rw [W15_of m ρ c main_v19_0 (by decide +kernel), W14_of m ρ c main_v19_0 (by decide +kernel), W13_of m ρ c main_v19_0 (by decide +kernel), W12_of m ρ c main_v19_0 (by decide +kernel), W11_of m ρ c main_v19_0 (by decide +kernel), W10_of m ρ c main_v19_0 (by decide +kernel)]
  exact s_v19_0 m ρ c ha

theorem g15_v20 (ha : (A m c).Real) : V15 m ρ c main_v20 = mmt (A m c).DZ (A m c).wpg := by
  show W15 m ρ c (Proc.devRef .tc main_v20) = _
  rw [W15_of m ρ c main_v20 (by decide +kernel), W14_of m ρ c main_v20 (by decide +kernel), W13_of m ρ c main_v20 (by decide +kernel), W12_of m ρ c main_v20 (by decide +kernel), W11_of m ρ c main_v20 (by decide +kernel)]
  exact s_v20 m ρ c ha

theorem g15_v25 (ha : (A m c).Real) : V15 m ρ c main_v25 = mmt (A m c).DGU (A m c).wgu := s_v25 m ρ c ha

theorem s_v26_0 (ha : (A m c).Real) : W16 m ρ c (Proc.devRef .tc main_v26_0) = fun i => cAlpha * (A m c).D1 i := by
  refine (W16_arr m ρ c 7).trans ((Calls.call13_7 (V15 m ρ) c).trans ?_)
  unfold Calls.xv13 Calls.cv13
  rw [g15_arg0 m ρ c, g15_v12 m ρ c, g15_v8 m ρ c, g15_v19_0 m ρ c ha, g15_v20 m ρ c ha, g15_v25 m ρ c ha]
  exact congrArg (fun D : Mat 4096 1024 => fun i => cAlpha * D i) (lnK_eq (Args.X1_re ha) (fun _ => ha.g1 _) (Args.DH_re ha))

theorem s_v26_1 (ha : (A m c).Real) : W16 m ρ c (Proc.devRef .tc main_v26_1) = (A m c).D1 := by
  refine (W16_arr m ρ c 8).trans ((Calls.call13_8 (V15 m ρ) c).trans ?_)
  unfold Calls.xv13 Calls.cv13
  rw [g15_arg0 m ρ c, g15_v12 m ρ c, g15_v8 m ρ c, g15_v19_0 m ρ c ha, g15_v20 m ρ c ha, g15_v25 m ρ c ha]
  exact lnK_eq (Args.X1_re ha) (fun _ => ha.g1 _) (Args.DH_re ha)

theorem s_v26_2 (ha : (A m c).Real) : W16 m ρ c (Proc.devRef .tc main_v26_2) = fun i => lnDg (A m c).X1 (A m c).DH (ix1 (i 1)) := by
  refine (W16_arr m ρ c 9).trans ((Calls.call13_9 (V15 m ρ) c).trans ?_)
  unfold Calls.xv13 Calls.cv13
  rw [g15_arg0 m ρ c, g15_v12 m ρ c, g15_v19_0 m ρ c ha, g15_v20 m ρ c ha, g15_v25 m ρ c ha]
  rfl

theorem s_v26_3 (ha : (A m c).Real) : W16 m ρ c (Proc.devRef .tc main_v26_3) = fun i => lnDb (A m c).DH (ix1 (i 1)) := by
  refine (W16_arr m ρ c 10).trans ((Calls.call13_10 (V15 m ρ) c).trans ?_)
  unfold Calls.cv13
  rw [g15_v19_0 m ρ c ha, g15_v20 m ρ c ha, g15_v25 m ρ c ha]
  rfl

theorem g16_v26_1 (ha : (A m c).Real) : V16 m ρ c main_v26_1 = (A m c).D1 := s_v26_1 m ρ c ha

theorem g16_v1 : V16 m ρ c main_v1 = (A m c).wo := by
  show W16 m ρ c (Proc.devRef .tc main_v1) = _
  rw [W16_of m ρ c main_v1 (by decide +kernel), W15_of m ρ c main_v1 (by decide +kernel), W14_of m ρ c main_v1 (by decide +kernel), W13_of m ρ c main_v1 (by decide +kernel), W12_of m ρ c main_v1 (by decide +kernel), W11_of m ρ c main_v1 (by decide +kernel), W10_of m ρ c main_v1 (by decide +kernel), W9_of m ρ c main_v1 (by decide +kernel), W8_of m ρ c main_v1 (by decide +kernel), W7_of m ρ c main_v1 (by decide +kernel), W6_of m ρ c main_v1 (by decide +kernel), W5_of m ρ c main_v1 (by decide +kernel), W4_of m ρ c main_v1 (by decide +kernel), W3_of m ρ c main_v1 (by decide +kernel), W2_of m ρ c main_v1 (by decide +kernel)]
  exact h_v1 m ρ c

theorem s_v27 (ha : (A m c).Real) : W17 m ρ c (Proc.devRef .tc main_v27) = mmt (A m c).D1 (A m c).wo := by
  refine (W17_arr m ρ c 2).trans ((Calls.call14 (V16 m ρ) c).trans ?_)
  rw [g16_v26_1 m ρ c ha, g16_v1 m ρ c]

theorem g17_v18_0 : V17 m ρ c main_v18_0 = (A m c).Y := by
  show W17 m ρ c (Proc.devRef .tc main_v18_0) = _
  rw [W17_of m ρ c main_v18_0 (by decide +kernel), W16_of m ρ c main_v18_0 (by decide +kernel), W15_of m ρ c main_v18_0 (by decide +kernel), W14_of m ρ c main_v18_0 (by decide +kernel), W13_of m ρ c main_v18_0 (by decide +kernel), W12_of m ρ c main_v18_0 (by decide +kernel), W11_of m ρ c main_v18_0 (by decide +kernel), W10_of m ρ c main_v18_0 (by decide +kernel), W9_of m ρ c main_v18_0 (by decide +kernel)]
  exact s_v18_0 m ρ c

theorem g17_v26_0 (ha : (A m c).Real) : V17 m ρ c main_v26_0 = fun i => cAlpha * (A m c).D1 i := by
  show W17 m ρ c (Proc.devRef .tc main_v26_0) = _
  rw [W17_of m ρ c main_v26_0 (by decide +kernel)]
  exact s_v26_0 m ρ c ha

theorem g17_v27 (ha : (A m c).Real) : V17 m ρ c main_v27 = mmt (A m c).D1 (A m c).wo := s_v27 m ρ c ha

theorem g17_v21 (ha : (A m c).Real) : V17 m ρ c main_v21 = tmm (A m c).act (A m c).D2 := by
  show W17 m ρ c (Proc.devRef .tc main_v21) = _
  rw [W17_of m ρ c main_v21 (by decide +kernel), W16_of m ρ c main_v21 (by decide +kernel), W15_of m ρ c main_v21 (by decide +kernel), W14_of m ρ c main_v21 (by decide +kernel), W13_of m ρ c main_v21 (by decide +kernel), W12_of m ρ c main_v21 (by decide +kernel)]
  exact s_v21 m ρ c ha

theorem g17_v26_2 (ha : (A m c).Real) : V17 m ρ c main_v26_2 = fun i => lnDg (A m c).X1 (A m c).DH (ix1 (i 1)) := by
  show W17 m ρ c (Proc.devRef .tc main_v26_2) = _
  rw [W17_of m ρ c main_v26_2 (by decide +kernel)]
  exact s_v26_2 m ρ c ha

theorem g17_v26_3 (ha : (A m c).Real) : V17 m ρ c main_v26_3 = fun i => lnDb (A m c).DH (ix1 (i 1)) := by
  show W17 m ρ c (Proc.devRef .tc main_v26_3) = _
  rw [W17_of m ρ c main_v26_3 (by decide +kernel)]
  exact s_v26_3 m ρ c ha

theorem g17_v19_4 : V17 m ρ c main_v19_4 = fun i => lnDg (A m c).X2 (A m c).dy (ix1 (i 1)) := by
  show W17 m ρ c (Proc.devRef .tc main_v19_4) = _
  rw [W17_of m ρ c main_v19_4 (by decide +kernel), W16_of m ρ c main_v19_4 (by decide +kernel), W15_of m ρ c main_v19_4 (by decide +kernel), W14_of m ρ c main_v19_4 (by decide +kernel), W13_of m ρ c main_v19_4 (by decide +kernel), W12_of m ρ c main_v19_4 (by decide +kernel), W11_of m ρ c main_v19_4 (by decide +kernel), W10_of m ρ c main_v19_4 (by decide +kernel)]
  exact s_v19_4 m ρ c

theorem g17_v19_5 : V17 m ρ c main_v19_5 = fun i => lnDb (A m c).dy (ix1 (i 1)) := by
  show W17 m ρ c (Proc.devRef .tc main_v19_5) = _
  rw [W17_of m ρ c main_v19_5 (by decide +kernel), W16_of m ρ c main_v19_5 (by decide +kernel), W15_of m ρ c main_v19_5 (by decide +kernel), W14_of m ρ c main_v19_5 (by decide +kernel), W13_of m ρ c main_v19_5 (by decide +kernel), W12_of m ρ c main_v19_5 (by decide +kernel), W11_of m ρ c main_v19_5 (by decide +kernel), W10_of m ρ c main_v19_5 (by decide +kernel)]
  exact s_v19_5 m ρ c

theorem g17_v24 (ha : (A m c).Real) : V17 m ρ c main_v24 = blk 8 rfl (tmm (A m c).H1 (A m c).DGU) := by
  show W17 m ρ c (Proc.devRef .tc main_v24) = _
  rw [W17_of m ρ c main_v24 (by decide +kernel), W16_of m ρ c main_v24 (by decide +kernel), W15_of m ρ c main_v24 (by decide +kernel)]
  exact s_v24 m ρ c ha

theorem h_v30 (ha : (A m c).Real) : W18 m ρ c (Proc.devRef .tc main_v30) = lnDg (A m c).X1 (A m c).DH := by
  unfold_abbrev_sides
  after_results
  rw [show W17 m ρ c (Proc.devRef .tc main_v26_2) = _ from g17_v26_2 m ρ c ha]
  exact row_back _ _

theorem h_v31 (ha : (A m c).Real) : W18 m ρ c (Proc.devRef .tc main_v31) = lnDb (A m c).DH := by
  unfold_abbrev_sides
  after_results
  rw [show W17 m ρ c (Proc.devRef .tc main_v26_3) = _ from g17_v26_3 m ρ c ha]
  exact row_back _ _

theorem h_v32 : W18 m ρ c (Proc.devRef .tc main_v32) = lnDg (A m c).X2 (A m c).dy := by
  unfold_abbrev_sides
  after_results
  rw [show W17 m ρ c (Proc.devRef .tc main_v19_4) = _ from g17_v19_4 m ρ c]
  exact row_back _ _

theorem h_v33 : W18 m ρ c (Proc.devRef .tc main_v33) = lnDb (A m c).dy := by
  unfold_abbrev_sides
  after_results
  rw [show W17 m ρ c (Proc.devRef .tc main_v19_5) = _ from g17_v19_5 m ρ c]
  exact row_back _ _

theorem h_v29 (ha : (A m c).Real) : W18 m ρ c (Proc.devRef .tc main_v29) = tmm (A m c).H1 (A m c).DGU := by
  unfold_abbrev_sides
  after_results
  rw [show W17 m ρ c (Proc.devRef .tc main_v24) = _ from g17_v24 m ρ c ha]
  exact gu_back _ _ _

theorem f_v18_0 : W18 m ρ c (Proc.devRef .tc main_v18_0) = (A m c).Y := by
  rw [W18_of m ρ c main_v18_0 (by decide +kernel)]
  exact g17_v18_0 m ρ c

theorem f_v26_0 (ha : (A m c).Real) : W18 m ρ c (Proc.devRef .tc main_v26_0) = fun i => cAlpha * (A m c).D1 i := by
  rw [W18_of m ρ c main_v26_0 (by decide +kernel)]
  exact g17_v26_0 m ρ c ha

theorem f_v27 (ha : (A m c).Real) : W18 m ρ c (Proc.devRef .tc main_v27) = mmt (A m c).D1 (A m c).wo := by
  rw [W18_of m ρ c main_v27 (by decide +kernel)]
  exact g17_v27 m ρ c ha

theorem f_v21 (ha : (A m c).Real) : W18 m ρ c (Proc.devRef .tc main_v21) = tmm (A m c).act (A m c).D2 := by
  rw [W18_of m ρ c main_v21 (by decide +kernel)]
  exact g17_v21 m ρ c ha

end Cert.Chain

end
-- ==== Proof.RefRead.lean ====
/-
  What the reference computes, array by array, in the terms of Proof/Spec.lean.
-/
module

public import proofs.«01_k».proof.Proof.Spec
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.RefRead

open Idealize.ShloMosaic Idealize.ShloMosaic.Host Idealize.ShloMosaic.StableHlo Cert.ReferenceIdeal Cert.ReferenceIdeal.Gen Cert.ReferenceIdeal.Read Cert.Spec

variable (a : Args)

theorem r_v0 : val_main_v0 (F := Ideal) a.cat a.wo = a.mix := by
  unfold val_main_v0
  funext i
  pointwise [Args.mix, mm]

theorem r_v3 : val_main_v3 (F := Ideal) a.h a.cat a.wo = a.X1 := by
  unfold val_main_v3 val_main_v2 val_main_v1 val_main_cst
  rw [r_v0]
  funext i
  pointwise [Args.X1, cAlpha]

theorem r_v4 : val_main_v4 (F := Ideal) a.h a.cat a.wo = fun i : S4096.Idx => ∑ l : Fin 1024, a.X1 (ix2 (i 0) l) := by
  unfold val_main_v4 val_main_cst_0
  rw [r_v3]
  funext i
  pointwise []

theorem r_v7 : val_main_v7 (F := Ideal) a.h a.cat a.wo = fun i : S4096x1.Idx => mean a.X1 (i 0) := by
  unfold val_main_v7 val_main_v5 val_main_v6 val_main_cst_1
  rw [r_v4]
  funext i
  pointwise [mean, cN]

theorem r_v9 : val_main_v9 (F := Ideal) a.h a.cat a.wo = cen a.X1 := by
  unfold val_main_v9 val_main_v8
  rw [r_v3, r_v7]
  funext i
  pointwise [cen]

theorem r_v18 : val_main_v18 (F := Ideal) a.h a.cat a.wo = cen a.X1 := by
  unfold val_main_v18 val_main_v17
  rw [r_v3, r_v7]
  funext i
  pointwise [cen]

theorem r_v12 : val_main_v12 (F := Ideal) a.h a.cat a.wo = fun i : S4096x1024.Idx => cTwo * cen a.X1 i := by
  unfold val_main_v12 val_main_v11 val_main_cst_2
  rw [r_v9]
  funext i
  pointwise [cTwo]

theorem r_v20 : val_main_v20 (F := Ideal) a.h a.cat a.wo = fun i : S4096x1.Idx => ve a.X1 (i 0) := by
  unfold val_main_v20 val_main_v16 val_main_v14 val_main_v13 val_main_v10 val_main_cst_3 val_main_v15 val_main_cst_4 val_main_v19 val_main_cst_5
  rw [r_v9]
  funext i
  pointwise [ve, cN, cEps]

theorem r_v21 : val_main_v21 (F := Ideal) a.h a.cat a.wo = fun i : S4096x1.Idx => Ideal.rsqrt (ve a.X1 (i 0)) := by
  unfold val_main_v21
  rw [r_v20]
  funext i
  pointwise []

theorem r_v24 : val_main_v24 (F := Ideal) a.h a.cat a.wo = fun i : S4096x1.Idx => cHalf * Ideal.div (Ideal.rsqrt (ve a.X1 (i 0))) (ve a.X1 (i 0)) := by
  unfold val_main_v24 val_main_v22 val_main_v23 val_main_cst_6
  rw [r_v21, r_v20]
  funext i
  pointwise [cHalf]

theorem r_v26 : val_main_v26 (F := Ideal) a.h a.cat a.wo = nrm a.X1 := by
  unfold val_main_v26 val_main_v25
  rw [r_v18, r_v21]
  funext i
  pointwise [nrm]

theorem r_v32 : val_main_v32 (F := Ideal) a.h a.cat a.wo a.g1 a.b1 = a.H1 := by
  unfold val_main_v32 val_main_v29 val_main_v28 val_main_v27 val_main_v31 val_main_v30
  rw [r_v26]
  funext i
  pointwise [Args.H1, ln]

theorem r_v33 : val_main_v33 (F := Ideal) a.h a.cat a.wo a.g1 a.b1 a.wgu = a.GU := by
  unfold val_main_v33
  rw [r_v32]
  funext i
  pointwise [Args.GU, mm]

theorem r_v34 : val_main_v34 (F := Ideal) a.h a.cat a.wo a.g1 a.b1 a.wgu = a.gate := by
  unfold val_main_v34
  rw [r_v33]
  funext i
  pointwise [Args.gate]

theorem r_v35 : val_main_v35 (F := Ideal) a.h a.cat a.wo a.g1 a.b1 a.wgu = a.up := by
  unfold val_main_v35
  rw [r_v33]
  funext i
  pointwise [Args.up]

theorem r_v36_2 : val_main_v36_2 (F := Ideal) a.h a.cat a.wo a.g1 a.b1 a.wgu = fun i : S4096x2816.Idx => sg (a.gate i) := by
  unfold val_main_v36_2 val_main_call0_v4 val_main_call0_cst_0 val_main_call0_v3 val_main_call0_v2 val_main_call0_cst val_main_call0_v1 val_main_call0_v0
  rw [r_v34]
  funext i
  pointwise [sg]

theorem r_v36_1 : val_main_v36_1 (F := Ideal) a.h a.cat a.wo a.g1 a.b1 a.wgu = fun i : S4096x2816.Idx => sg (a.gate i) * (1 - sg (a.gate i)) := by
  unfold val_main_v36_1 val_main_call0_v7 val_main_call0_v6 val_main_call0_cst_1
  rw [r_v36_2]
  funext i
  pointwise []

theorem r_v36_0 : val_main_v36_0 (F := Ideal) a.h a.cat a.wo a.g1 a.b1 a.wgu = fun i : S4096x2816.Idx => a.gate i * sg (a.gate i) := by
  unfold val_main_v36_0
  rw [r_v34, r_v36_2]
  funext i
  pointwise []

theorem r_v37 : val_main_v37 (F := Ideal) a.h a.cat a.wo a.g1 a.b1 a.wgu = a.act := by
  unfold val_main_v37
  rw [r_v36_0, r_v35]
  funext i
  pointwise [Args.act]

theorem r_v38 : val_main_v38 (F := Ideal) a.h a.cat a.wo a.g1 a.b1 a.wgu a.wd = a.FF := by
  unfold val_main_v38
  rw [r_v37]
  funext i
  pointwise [Args.FF, mm]

theorem r_v39 : val_main_v39 (F := Ideal) a.h a.cat a.wo a.g1 a.b1 a.wpg = a.PG := by
  unfold val_main_v39
  rw [r_v32]
  funext i
  pointwise [Args.PG, mm]

theorem r_v45 : val_main_v45 (F := Ideal) a.h a.cat a.wo a.g1 a.b1 a.wpg = fun i : S4096x1024.Idx => sg (a.PG i) := by
  unfold val_main_v45 val_main_v44 val_main_cst_8 val_main_v43 val_main_v42 val_main_cst_7 val_main_v41 val_main_v40
  rw [r_v39]
  funext i
  pointwise [sg]

theorem r_v48 : val_main_v48 (F := Ideal) a.h a.cat a.wo a.g1 a.b1 a.wpg = fun i : S4096x1024.Idx => sg (a.PG i) * (1 - sg (a.PG i)) := by
  unfold val_main_v48 val_main_v47 val_main_v46 val_main_cst_9
  rw [r_v45]
  funext i
  pointwise []

theorem r_v49 : val_main_v49 (F := Ideal) a.p a.wpp = a.PP := by
  unfold val_main_v49
  funext i
  pointwise [Args.PP, mm]

theorem r_v54 : val_main_v54 (F := Ideal) a.h a.cat a.p a.wo a.g1 a.b1 a.wgu a.wd a.wpg a.wpp = a.X2 := by
  unfold val_main_v54 val_main_v53 val_main_v52 val_main_v51 val_main_cst_10 val_main_v50
  rw [r_v32, r_v38, r_v45, r_v49]
  funext i
  pointwise [Args.X2, cAlpha]

theorem r_v55 : val_main_v55 (F := Ideal) a.h a.cat a.p a.wo a.g1 a.b1 a.wgu a.wd a.wpg a.wpp = fun i : S4096.Idx => ∑ l : Fin 1024, a.X2 (ix2 (i 0) l) := by
  unfold val_main_v55 val_main_cst_11
  rw [r_v54]
  funext i
  pointwise []

theorem r_v58 : val_main_v58 (F := Ideal) a.h a.cat a.p a.wo a.g1 a.b1 a.wgu a.wd a.wpg a.wpp = fun i : S4096x1.Idx => mean a.X2 (i 0) := by
  unfold val_main_v58 val_main_v56 val_main_v57 val_main_cst_12
  rw [r_v55]
  funext i
  pointwise [mean, cN]

theorem r_v60 : val_main_v60 (F := Ideal) a.h a.cat a.p a.wo a.g1 a.b1 a.wgu a.wd a.wpg a.wpp = cen a.X2 := by
  unfold val_main_v60 val_main_v59
  rw [r_v54, r_v58]
  funext i
  pointwise [cen]

theorem r_v69 : val_main_v69 (F := Ideal) a.h a.cat a.p a.wo a.g1 a.b1 a.wgu a.wd a.wpg a.wpp = cen a.X2 := by
  unfold val_main_v69 val_main_v68
  rw [r_v54, r_v58]
  funext i
  pointwise [cen]

theorem r_v63 : val_main_v63 (F := Ideal) a.h a.cat a.p a.wo a.g1 a.b1 a.wgu a.wd a.wpg a.wpp = fun i : S4096x1024.Idx => cTwo * cen a.X2 i := by
  unfold val_main_v63 val_main_v62 val_main_cst_13
  rw [r_v60]
  funext i
  pointwise [cTwo]

theorem r_v71 : val_main_v71 (F := Ideal) a.h a.cat a.p a.wo a.g1 a.b1 a.wgu a.wd a.wpg a.wpp = fun i : S4096x1.Idx => ve a.X2 (i 0) := by
  unfold val_main_v71 val_main_v67 val_main_v65 val_main_v64 val_main_v61 val_main_cst_14 val_main_v66 val_main_cst_15 val_main_v70 val_main_cst_16
  rw [r_v60]
  funext i
  pointwise [ve, cN, cEps]

theorem r_v72 : val_main_v72 (F := Ideal) a.h a.cat a.p a.wo a.g1 a.b1 a.wgu a.wd a.wpg a.wpp = fun i : S4096x1.Idx => Ideal.rsqrt (ve a.X2 (i 0)) := by
  unfold val_main_v72
  rw [r_v71]
  funext i
  pointwise []

theorem r_v75 : val_main_v75 (F := Ideal) a.h a.cat a.p a.wo a.g1 a.b1 a.wgu a.wd a.wpg a.wpp = fun i : S4096x1.Idx => cHalf * Ideal.div (Ideal.rsqrt (ve a.X2 (i 0))) (ve a.X2 (i 0)) := by
  unfold val_main_v75 val_main_v73 val_main_v74 val_main_cst_17
  rw [r_v72, r_v71]
  funext i
  pointwise [cHalf]

theorem r_v77 : val_main_v77 (F := Ideal) a.h a.cat a.p a.wo a.g1 a.b1 a.wgu a.wd a.wpg a.wpp = nrm a.X2 := by
  unfold val_main_v77 val_main_v76
  rw [r_v69, r_v72]
  funext i
  pointwise [nrm]

theorem r_v83 : val_main_v83 (F := Ideal) a.h a.cat a.p a.wo a.g1 a.b1 a.wgu a.wd a.wpg a.wpp a.g2 a.b2 = a.Y := by
  unfold val_main_v83 val_main_v80 val_main_v79 val_main_v78 val_main_v82 val_main_v81
  rw [r_v77]
  funext i
  pointwise [Args.Y, ln]

theorem r_v84 : val_main_v84 (F := Ideal) a.dy = a.dy := by
  unfold val_main_v84
  funext i
  pointwise []

theorem r_v92 : val_main_v92 (F := Ideal) a.g2 a.dy = fun i : S4096x1024.Idx => a.dy i * a.g2 (ix1 (i 1)) := by
  unfold val_main_v92 val_main_v91 val_main_v78
  rw [r_v84]
  funext i
  pointwise []

theorem r_v98 : val_main_v98 (F := Ideal) a.h a.cat a.p a.wo a.g1 a.b1 a.wgu a.wd a.wpg a.wpp a.g2 a.dy = dA a.X2 (fun j => a.g2 (ix1 j)) a.dy := by
  unfold val_main_v98 val_main_v97
  rw [r_v92, r_v72]
  funext i
  pointwise [dA]

theorem r_v96 : val_main_v96 (F := Ideal) a.h a.cat a.p a.wo a.g1 a.b1 a.wgu a.wd a.wpg a.wpp a.g2 a.dy = fun i : S4096x1.Idx => ∑ l : Fin 1024, cen a.X2 (ix2 (i 0) l) * (a.dy (ix2 (i 0) l) * a.g2 (ix1 l)) := by
  unfold val_main_v96 val_main_v95 val_main_cst_22 val_main_v94
  rw [r_v92, r_v69]
  funext i
  pointwise []

theorem r_v104 : val_main_v104 (F := Ideal) a.h a.cat a.p a.wo a.g1 a.b1 a.wgu a.wd a.wpg a.wpp a.g2 a.dy = fun i : S4096x1.Idx => dq a.X2 (fun j => a.g2 (ix1 j)) a.dy (i 0) := by
  unfold val_main_v104 val_main_v99 val_main_v103 val_main_cst_24
  rw [r_v96, r_v75]
  funext i
  pointwise [dq, cN]

theorem r_v107 : val_main_v107 (F := Ideal) a.h a.cat a.p a.wo a.g1 a.b1 a.wgu a.wd a.wpg a.wpp a.g2 a.dy = dB a.X2 (fun j => a.g2 (ix1 j)) a.dy := by
  unfold val_main_v107 val_main_v106 val_main_v105 val_main_cst_25
  rw [r_v104, r_v63]
  funext i
  pointwise [dB]
  simp only [Fin.sum_univ_one]

theorem r_v102 : val_main_v102 (F := Ideal) a.h a.cat a.p a.wo a.g1 a.b1 a.wgu a.wd a.wpg a.wpp a.g2 a.dy = fun i : S4096x1.Idx => ∑ l : Fin 1024, -dA a.X2 (fun j => a.g2 (ix1 j)) a.dy (ix2 (i 0) l) := by
  unfold val_main_v102 val_main_v101 val_main_cst_23 val_main_v100
  rw [r_v98]
  funext i
  pointwise []

theorem r_v110 : val_main_v110 (F := Ideal) a.h a.cat a.p a.wo a.g1 a.b1 a.wgu a.wd a.wpg a.wpp a.g2 a.dy = fun i : S4096x1.Idx => ∑ l : Fin 1024, -dB a.X2 (fun j => a.g2 (ix1 j)) a.dy (ix2 (i 0) l) := by
  unfold val_main_v110 val_main_v109 val_main_cst_26 val_main_v108
  rw [r_v107]
  funext i
  pointwise []

theorem r_v117 : val_main_v117 (F := Ideal) a.h a.cat a.p a.wo a.g1 a.b1 a.wgu a.wd a.wpg a.wpp a.g2 a.dy = a.D2 := by
  unfold val_main_v117 val_main_v111 val_main_v116 val_main_v115 val_main_cst_28 val_main_v114 val_main_v113 val_main_cst_27 val_main_v112
  rw [r_v98, r_v107, r_v102, r_v110]
  funext i
  pointwise [Args.D2, lnD, cN]
  simp only [Fin.sum_univ_one]

theorem r_v125 : val_main_v125 (F := Ideal) a.h a.cat a.p a.wo a.g1 a.b1 a.wgu a.wd a.wpg a.wpp a.g2 a.dy = a.DZ := by
  unfold val_main_v125 val_main_v121
  rw [r_v117, r_v49, r_v48]
  funext i
  pointwise [Args.DZ, dsg]

theorem r_v132 : val_main_v132 (F := Ideal) a.h a.cat a.p a.wo a.g1 a.b1 a.wgu a.wd a.wpg a.wpp a.g2 a.dy = a.DA := by
  unfold val_main_v132
  rw [r_v117]
  funext i
  pointwise [Args.DA, mmt]

theorem r_v133 : val_main_v133 (F := Ideal) a.h a.cat a.p a.wo a.g1 a.b1 a.wgu a.wd a.wpg a.wpp a.g2 a.dy = a.Dup := by
  unfold val_main_v133
  rw [r_v36_0, r_v132]
  funext i
  pointwise [Args.Dup]
  exact mul_comm _ _

theorem r_v135 : val_main_v135 (F := Ideal) a.h a.cat a.p a.wo a.g1 a.b1 a.wgu a.wd a.wpg a.wpp a.g2 a.dy = a.Dgate := by
  unfold val_main_v135 val_main_call1_v1 val_main_call1_v2 val_main_call1_v0 val_main_v134
  rw [r_v132, r_v35, r_v36_2, r_v36_1, r_v34]
  funext i
  pointwise [Args.Dgate, dsilu]

theorem r_v136 : val_main_v136 (F := Ideal) a.h a.cat a.p a.wo a.g1 a.b1 a.wgu a.wd a.wpg a.wpp a.g2 a.dy = a.DGU := by
  unfold val_main_v136
  rw [r_v135, r_v133]
  funext i
  pointwise [Args.DGU]

theorem r_v140 : val_main_v140 (F := Ideal) a.h a.cat a.p a.wo a.g1 a.b1 a.wgu a.wd a.wpg a.wpp a.g2 a.dy = a.DH := by
  unfold val_main_v140 val_main_v129 val_main_v119 val_main_v118 val_main_cst_29 val_main_v128 val_main_v139
  rw [r_v117, r_v125, r_v136]
  funext i
  pointwise [Args.DH, cAlpha, mmt]

theorem r_v148 : val_main_v148 (F := Ideal) a.h a.cat a.p a.wo a.g1 a.b1 a.wgu a.wd a.wpg a.wpp a.g2 a.dy = fun i : S4096x1024.Idx => a.DH i * a.g1 (ix1 (i 1)) := by
  unfold val_main_v148 val_main_v147 val_main_v27
  rw [r_v140]
  funext i
  pointwise []

theorem r_v154 : val_main_v154 (F := Ideal) a.h a.cat a.p a.wo a.g1 a.b1 a.wgu a.wd a.wpg a.wpp a.g2 a.dy = dA a.X1 (fun j => a.g1 (ix1 j)) a.DH := by
  unfold val_main_v154 val_main_v153
  rw [r_v148, r_v21]
  funext i
  pointwise [dA]

theorem r_v152 : val_main_v152 (F := Ideal) a.h a.cat a.p a.wo a.g1 a.b1 a.wgu a.wd a.wpg a.wpp a.g2 a.dy = fun i : S4096x1.Idx => ∑ l : Fin 1024, cen a.X1 (ix2 (i 0) l) * (a.DH (ix2 (i 0) l) * a.g1 (ix1 l)) := by
  unfold val_main_v152 val_main_v151 val_main_cst_34 val_main_v150
  rw [r_v148, r_v18]
  funext i
  pointwise []

theorem r_v160 : val_main_v160 (F := Ideal) a.h a.cat a.p a.wo a.g1 a.b1 a.wgu a.wd a.wpg a.wpp a.g2 a.dy = fun i : S4096x1.Idx => dq a.X1 (fun j => a.g1 (ix1 j)) a.DH (i 0) := by
  unfold val_main_v160 val_main_v155 val_main_v159 val_main_cst_36
  rw [r_v152, r_v24]
  funext i
  pointwise [dq, cN]

theorem r_v163 : val_main_v163 (F := Ideal) a.h a.cat a.p a.wo a.g1 a.b1 a.wgu a.wd a.wpg a.wpp a.g2 a.dy = dB a.X1 (fun j => a.g1 (ix1 j)) a.DH := by
  unfold val_main_v163 val_main_v162 val_main_v161 val_main_cst_37
  rw [r_v160, r_v12]
  funext i
  pointwise [dB]
  simp only [Fin.sum_univ_one]

theorem r_v158 : val_main_v158 (F := Ideal) a.h a.cat a.p a.wo a.g1 a.b1 a.wgu a.wd a.wpg a.wpp a.g2 a.dy = fun i : S4096x1.Idx => ∑ l : Fin 1024, -dA a.X1 (fun j => a.g1 (ix1 j)) a.DH (ix2 (i 0) l) := by
  unfold val_main_v158 val_main_v157 val_main_cst_35 val_main_v156
  rw [r_v154]
  funext i
  pointwise []

theorem r_v166 : val_main_v166 (F := Ideal) a.h a.cat a.p a.wo a.g1 a.b1 a.wgu a.wd a.wpg a.wpp a.g2 a.dy = fun i : S4096x1.Idx => ∑ l : Fin 1024, -dB a.X1 (fun j => a.g1 (ix1 j)) a.DH (ix2 (i 0) l) := by
  unfold val_main_v166 val_main_v165 val_main_cst_38 val_main_v164
  rw [r_v163]
  funext i
  pointwise []

theorem r_v173 : val_main_v173 (F := Ideal) a.h a.cat a.p a.wo a.g1 a.b1 a.wgu a.wd a.wpg a.wpp a.g2 a.dy = a.D1 := by
  unfold val_main_v173 val_main_v167 val_main_v172 val_main_v171 val_main_cst_40 val_main_v170 val_main_v169 val_main_cst_39 val_main_v168
  rw [r_v154, r_v163, r_v158, r_v166]
  funext i
  pointwise [Args.D1, lnD, cN]
  simp only [Fin.sum_univ_one]

theorem r_v175 : val_main_v175 (F := Ideal) a.h a.cat a.p a.wo a.g1 a.b1 a.wgu a.wd a.wpg a.wpp a.g2 a.dy = fun i : S4096x1024.Idx => cAlpha * a.D1 i := by
  unfold val_main_v175 val_main_v174 val_main_cst_41
  rw [r_v173]
  funext i
  pointwise [cAlpha]

theorem r_v178 : val_main_v178 (F := Ideal) a.h a.cat a.p a.wo a.g1 a.b1 a.wgu a.wd a.wpg a.wpp a.g2 a.dy = mmt a.D1 a.wo := by
  unfold val_main_v178
  rw [r_v173]
  funext i
  pointwise [mmt]

theorem r_v149 : val_main_v149 (F := Ideal) a.h a.cat a.p a.wo a.g1 a.b1 a.wgu a.wd a.wpg a.wpp a.g2 a.dy = lnDg a.X1 a.DH := by
  unfold val_main_v149 val_main_v146 val_main_v145 val_main_v144 val_main_cst_33 val_main_cst_32
  rw [r_v26, r_v140]
  funext i
  pointwise [lnDg]
  simp only [Fin.sum_univ_one]

theorem r_v143 : val_main_v143 (F := Ideal) a.h a.cat a.p a.wo a.g1 a.b1 a.wgu a.wd a.wpg a.wpp a.g2 a.dy = lnDb a.DH := by
  unfold val_main_v143 val_main_v142 val_main_v141 val_main_cst_31 val_main_cst_30
  rw [r_v140]
  funext i
  pointwise [lnDb]
  simp only [Fin.sum_univ_one]

theorem r_v138 : val_main_v138 (F := Ideal) a.h a.cat a.p a.wo a.g1 a.b1 a.wgu a.wd a.wpg a.wpp a.g2 a.dy = tmm a.H1 a.DGU := by
  unfold val_main_v138 val_main_v137
  rw [r_v136, r_v32]
  funext i
  pointwise [tmm]
  exact Finset.sum_congr rfl fun _ _ => mul_comm _ _

theorem r_v131 : val_main_v131 (F := Ideal) a.h a.cat a.p a.wo a.g1 a.b1 a.wgu a.wd a.wpg a.wpp a.g2 a.dy = tmm a.act a.D2 := by
  unfold val_main_v131 val_main_v130
  rw [r_v117, r_v37]
  funext i
  pointwise [tmm]
  exact Finset.sum_congr rfl fun _ _ => mul_comm _ _

theorem r_v93 : val_main_v93 (F := Ideal) a.h a.cat a.p a.wo a.g1 a.b1 a.wgu a.wd a.wpg a.wpp a.dy = lnDg a.X2 a.dy := by
  unfold val_main_v93 val_main_v90 val_main_v89 val_main_v88 val_main_cst_21 val_main_cst_20
  rw [r_v77, r_v84]
  funext i
  pointwise [lnDg]
  simp only [Fin.sum_univ_one]

theorem r_v87 : val_main_v87 (F := Ideal) a.dy = lnDb a.dy := by
  unfold val_main_v87 val_main_v86 val_main_v85 val_main_cst_19 val_main_cst_18
  funext i
  pointwise [lnDb]
  simp only [Fin.sum_univ_one]

end Cert.RefRead

end
-- ==== Proof.Finite.lean ====
/-
  The precondition `finite`, decoded: every entry of every argument is a real.
-/
module

public import proofs.«01_k».proof.Proof.Reals
public import proofs.«01_k».proof.Defs
public import Idealize.ShloMosaic.Lib.ReduceAll

@[expose] public section

set_option maxRecDepth 16384

noncomputable section

namespace Cert.Spec

open Idealize.ShloMosaic Idealize.ShloMosaic.Host

/-- An entry whose absolute value is below infinity is a real. -/
theorem re_of_abs {x : EReal}
    (h : FloatOps.cmpf .olt (FloatOps.hostAbsf (F := Ideal) (φ := .f32) x) (FloatOps.ofBits (F := Ideal) .f32 0x7F800000#32) = 1#1) : Re x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by by_contra hn; simp [hn] at h'
  rw [max_lt_iff] at hlt
  induction x with
  | bot => simp at hlt
  | top => simp at hlt
  | coe r => exact ⟨r, rfl⟩

instance : Subsingleton Cert.Pre_finite.S_.Idx := ⟨fun a b => by funext d; exact Fin.elim0 d⟩

/-- One conjunct of the precondition gives that every entry of its array is a real. -/
theorem re_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant Cert.Pre_finite.S_ .f32 0x7F800000#32)))
      (constantI Cert.Pre_finite.S_ 1 1#1) hr hu j = 1#1) (i : s.Idx) : Re (x i) :=
  re_of_abs (Host.reduce_andi_all _ _ hr hu j h i)

theorem and_one {s : Shape} (x y : IVec s 1) (j : s.Idx) : andi x y j = 1#1 ↔ x j = 1#1 ∧ y j = 1#1 := by
  show (x j &&& y j) = 1#1 ↔ _
  generalize x j = p
  generalize y j = q
  revert p q; decide

/-- The arguments are real where the precondition holds. -/
theorem real_of_finite [Cert.Pre_finite.Facts] (a : Args)
    (h : Cert.Pre_finite.fn (F := Ideal) a.h a.cat a.p a.wo a.g1 a.b1 a.wgu a.wd a.wpg a.wpp a.g2 a.b2 a.dy = fun _ => 1#1) : a.Real := by
  have hj := congrFun h default
  unfold Cert.Pre_finite.fn Cert.Pre_finite.fn_part1 Cert.Pre_finite.fn_part2 Cert.Pre_finite.fn_part3 at hj
  simp only [and_one] at hj
  obtain ⟨⟨⟨⟨⟨⟨⟨⟨⟨⟨⟨⟨h0, h1⟩, h2⟩, h3⟩, h4⟩, h5⟩, h6⟩, h7⟩, h8⟩, h9⟩, h10⟩, h11⟩, h12⟩ := hj
  exact ⟨re_of_all _ _ _ _ _ h0, re_of_all _ _ _ _ _ h1, re_of_all _ _ _ _ _ h2, re_of_all _ _ _ _ _ h3, re_of_all _ _ _ _ _ h4,
    re_of_all _ _ _ _ _ h5, re_of_all _ _ _ _ _ h6, re_of_all _ _ _ _ _ h7, re_of_all _ _ _ _ _ h8, re_of_all _ _ _ _ _ h9,
    re_of_all _ _ _ _ _ h10, re_of_all _ _ _ _ _ h11, re_of_all _ _ _ _ _ h12⟩

end Cert.Spec
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.ProjRun
public import proofs.«01_k».proof.Proof.ProjChain
public import proofs.«01_k».proof.Proof.ProjRef
public import proofs.«01_k».proof.Proof.Gen.Reference2Ideal.Run
public import proofs.«01_k».proof.Proof.Run
public import proofs.«01_k».proof.Proof.FrameBits
public import proofs.«01_k».proof.Proof.Chain
public import proofs.«01_k».proof.Proof.RefRead
public import proofs.«01_k».proof.Proof.Finite

@[expose] public section

noncomputable section

namespace Cert.Proof

open Idealize.ShloMosaic Idealize.ShloMosaic.StableHlo Idealize.SL.Sem Cert.Spec Cert.Chain Cert.RefRead Cert.ReferenceIdeal.Read

/-- The reference runs, its arguments end as launched; it has no semaphore. -/
theorem frame_reference : Cert.quiescent_ReferenceIdeal := fun m ρ _ =>
  (θ_run _ _ _).mono (fun r h => ⟨fun c => (h c).2.2.2.2.2.2.2.2.2, sem_eq_zero_of_no_sems (by decide) r.2⟩) (Cert.ReferenceIdeal.Value.run (F := Ideal) m ρ)

/-- The reference's arguments on device `c`, as one record. -/
abbrev B (m' : (ℓ : Loc Cert.ReferenceIdeal.nD Cert.ReferenceIdeal.τ Cert.ReferenceIdeal.sig) → Buf (Elt Ideal) ℓ)
    (c : Dev Cert.ReferenceIdeal.nD) : Args :=
  ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12)⟩

/-- The two programs' memories agree at the arguments. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : SameArgs m m') (c : Dev Cert.KernelIdeal.nD) : B m' c = A m c := by
  obtain ⟨e0, e1, e2, e3, e4, e5, e6, e7, e8, e9, e10, e11, e12⟩ := h c
  unfold B A
  rw [e0, e1, e2, e3, e4, e5, e6, e7, e8, e9, e10, e11, e12]

/-- Over finite inputs the kernel's nine results are the reference's. -/
theorem algebraic : Cert.algebraic_KernelIdeal_ReferenceIdeal_pre_finite := by
  intro m g m' g' hpre hargs
  have ha : ∀ c, (A m c).Real := fun c => real_of_finite (A m c) (hpre c)
  refine ⟨fun c => (A m c).Y,
    fun c i => cAlpha * (A m c).D1 i,
    fun c => mmt (A m c).D1 (A m c).wo,
    fun c => lnDg (A m c).X1 (A m c).DH,
    fun c => lnDb (A m c).DH,
    fun c => tmm (A m c).H1 (A m c).DGU,
    fun c => tmm (A m c).act (A m c).D2,
    fun c => lnDg (A m c).X2 (A m c).dy,
    fun c => lnDb (A m c).dy, ?_, ?_⟩
  · exact (θ_run _ _ _).mono (fun r hr c => ⟨(hr.1 c _ (Cert.KernelIdeal.Gen.mem_uc Cert.KernelIdeal.main_v18_0 (by decide))).trans (f_v18_0 m g c),
      (hr.1 c _ (Cert.KernelIdeal.Gen.mem_uc Cert.KernelIdeal.main_v26_0 (by decide))).trans (f_v26_0 m g c (ha c)),
      (hr.1 c _ (Cert.KernelIdeal.Gen.mem_uc Cert.KernelIdeal.main_v27 (by decide))).trans (f_v27 m g c (ha c)),
      (hr.1 c _ (Cert.KernelIdeal.Gen.mem_uc Cert.KernelIdeal.main_v30 (by decide))).trans (h_v30 m g c (ha c)),
      (hr.1 c _ (Cert.KernelIdeal.Gen.mem_uc Cert.KernelIdeal.main_v31 (by decide))).trans (h_v31 m g c (ha c)),
      (hr.1 c _ (Cert.KernelIdeal.Gen.mem_uc Cert.KernelIdeal.main_v29 (by decide))).trans (h_v29 m g c (ha c)),
      (hr.1 c _ (Cert.KernelIdeal.Gen.mem_uc Cert.KernelIdeal.main_v21 (by decide))).trans (f_v21 m g c (ha c)),
      (hr.1 c _ (Cert.KernelIdeal.Gen.mem_uc Cert.KernelIdeal.main_v32 (by decide))).trans (h_v32 m g c),
      (hr.1 c _ (Cert.KernelIdeal.Gen.mem_uc Cert.KernelIdeal.main_v33 (by decide))).trans (h_v33 m g c),
      args_kept m g c (hr.1 c)⟩) (run_main (F := Ideal) m g)
  · exact (θ_run _ _ _).mono (fun r hr c => ⟨(hr c).1.trans ((val_main_v83_eq (launchContents m' c)).trans ((r_v83 (B m' c)).trans (congrArg (fun a : Args => a.Y) (same m m' hargs c)))),
      (hr c).2.1.trans ((val_main_v175_eq (launchContents m' c)).trans ((r_v175 (B m' c)).trans (congrArg (fun a : Args => (fun i : Cert.ReferenceIdeal.S4096x1024.Idx => cAlpha * a.D1 i)) (same m m' hargs c)))),
      (hr c).2.2.1.trans ((val_main_v178_eq (launchContents m' c)).trans ((r_v178 (B m' c)).trans (congrArg (fun a : Args => mmt a.D1 a.wo) (same m m' hargs c)))),
      (hr c).2.2.2.1.trans ((val_main_v149_eq (launchContents m' c)).trans ((r_v149 (B m' c)).trans (congrArg (fun a : Args => lnDg a.X1 a.DH) (same m m' hargs c)))),
      (hr c).2.2.2.2.1.trans ((val_main_v143_eq (launchContents m' c)).trans ((r_v143 (B m' c)).trans (congrArg (fun a : Args => lnDb a.DH) (same m m' hargs c)))),
      (hr c).2.2.2.2.2.1.trans ((val_main_v138_eq (launchContents m' c)).trans ((r_v138 (B m' c)).trans (congrArg (fun a : Args => tmm a.H1 a.DGU) (same m m' hargs c)))),
      (hr c).2.2.2.2.2.2.1.trans ((val_main_v131_eq (launchContents m' c)).trans ((r_v131 (B m' c)).trans (congrArg (fun a : Args => tmm a.act a.D2) (same m m' hargs c)))),
      (hr c).2.2.2.2.2.2.2.1.trans ((val_main_v93_eq (launchContents m' c)).trans ((r_v93 (B m' c)).trans (congrArg (fun a : Args => lnDg a.X2 a.dy) (same m m' hargs c)))),
      (hr c).2.2.2.2.2.2.2.2.1.trans ((val_main_v87_eq (launchContents m' c)).trans ((r_v87 (B m' c)).trans (congrArg (fun a : Args => lnDb a.dy) (same m m' hargs c)))),
      (hr c).2.2.2.2.2.2.2.2.2⟩) (Cert.ReferenceIdeal.Value.run (F := Ideal) m' g')

/-- The second program over bits runs, with its arguments kept. -/
theorem frame_kernel2 : Cert.quiescent_Kernel2 := fun m ρ _ => Cert.Kernel2.Gen.frame m ρ

/-- The same over extended reals. -/
theorem frame_kernel2Ideal : Cert.quiescent_Kernel2Ideal := fun m ρ _ => Cert.Kernel2Ideal.Gen.frame m ρ

/-- Its reference runs, its arguments end as launched; it has no semaphore. -/
theorem frame_reference2 : Cert.quiescent_Reference2Ideal := fun m ρ _ =>
  (θ_run _ _ _).mono (fun r h => ⟨fun c => (h c).2.2.2.2.2.2.2.2, sem_eq_zero_of_no_sems (by decide) r.2⟩) (Cert.Reference2Ideal.Value.run (F := Ideal) m ρ)

section

variable (m : (ℓ : Loc Cert.Kernel2Ideal.nD Cert.Kernel2Ideal.τ Cert.Kernel2Ideal.sig) → Buf (Elt Ideal) ℓ) (c : Dev Cert.Kernel2Ideal.nD)

/-! The second reference's results, of arguments that are the second program's. -/

theorem ref_v1 {x0 : Mat 4096 1024} {x1 : Mat 1024 2208}
    (e0 : x0 = Proj.xh m c) (e1 : x1 = Proj.win m c) :
    Cert.Reference2Ideal.Read.val_main_v1 (F := Ideal) x0 x1 = Proj.cols 0 (by decide) (mm (Proj.xh m c) (Proj.win m c)) := by
  subst e0 e1
  exact ProjRef.r_v1 _ _

theorem ref_v4 {x0 : Mat 4096 1024} {x1 : Mat 1024 2208}
    (e0 : x0 = Proj.xh m c) (e1 : x1 = Proj.win m c) :
    Cert.Reference2Ideal.Read.val_main_v4 (F := Ideal) x0 x1 = Proj.cols 2176 (by decide) (mm (Proj.xh m c) (Proj.win m c)) := by
  subst e0 e1
  exact ProjRef.r_v4 _ _

theorem ref_v21 {x0 : Mat 4096 1024} {x1 : Mat 1024 2208} {x2 : Row 384} {x3 : Mat 384 768}
    (e0 : x0 = Proj.xh m c) (e1 : x1 = Proj.win m c) (e2 : x2 = Proj.gq m c) (e3 : x3 = Proj.wuq m c) :
    Cert.Reference2Ideal.Read.val_main_v21 (F := Ideal) x0 x1 x2 x3 = mm (Proj.rms Proj.c384 (Proj.xq m c) (fun j => Proj.gq m c (ix1 j))) (Proj.wuq m c) := by
  subst e0 e1 e2 e3
  exact ProjRef.r_v21 _ _ _ _

theorem ref_v38 {x0 : Mat 4096 1024} {x1 : Mat 1024 2208} {x4 : Row 256} {x5 : Mat 256 1024}
    (e0 : x0 = Proj.xh m c) (e1 : x1 = Proj.win m c) (e4 : x4 = Proj.gkv m c) (e5 : x5 = Proj.wukv m c) :
    Cert.Reference2Ideal.Read.val_main_v38 (F := Ideal) x0 x1 x4 x5 = mm (Proj.rms Proj.c256 (Proj.xkv m c) (fun j => Proj.gkv m c (ix1 j))) (Proj.wukv m c) := by
  subst e0 e1 e4 e5
  exact ProjRef.r_v38 _ _ _ _

theorem ref_v70 {x0 : Mat 4096 1024} {x1 : Mat 1024 2208} {x3 : Mat 384 768} {x8 : Mat 4096 768}
    (e0 : x0 = Proj.xh m c) (e1 : x1 = Proj.win m c) (e3 : x3 = Proj.wuq m c) (e8 : x8 = Proj.dq m c) :
    Cert.Reference2Ideal.Read.val_main_v70 (F := Ideal) x0 x1 x3 x8 = fun i => Proj.rmsDg Proj.c384 (Proj.xq m c) (Proj.dzq m c) (i 0) := by
  subst e0 e1 e3 e8
  exact ProjRef.r_v70 _ _ _ _

theorem ref_v47 {x0 : Mat 4096 1024} {x1 : Mat 1024 2208} {x5 : Mat 256 1024} {x9 : Mat 4096 1024}
    (e0 : x0 = Proj.xh m c) (e1 : x1 = Proj.win m c) (e5 : x5 = Proj.wukv m c) (e9 : x9 = Proj.dkv m c) :
    Cert.Reference2Ideal.Read.val_main_v47 (F := Ideal) x0 x1 x5 x9 = fun i => Proj.rmsDg Proj.c256 (Proj.xkv m c) (Proj.dzkv m c) (i 0) := by
  subst e0 e1 e5 e9
  exact ProjRef.r_v47 _ _ _ _

theorem ref_v87 {x0 : Mat 4096 1024} {x1 : Mat 1024 2208} {x2 : Row 384} {x3 : Mat 384 768} {x4 : Row 256} {x5 : Mat 256 1024} {x6 : Mat 4096 1536} {x7 : Mat 4096 32} {x8 : Mat 4096 768} {x9 : Mat 4096 1024}
    (e0 : x0 = Proj.xh m c) (e1 : x1 = Proj.win m c) (e2 : x2 = Proj.gq m c) (e3 : x3 = Proj.wuq m c) (e4 : x4 = Proj.gkv m c) (e5 : x5 = Proj.wukv m c) (e6 : x6 = Proj.dmix m c) (e7 : x7 = Proj.drope m c) (e8 : x8 = Proj.dq m c) (e9 : x9 = Proj.dkv m c) :
    Cert.Reference2Ideal.Read.val_main_v87 (F := Ideal) x0 x1 x2 x3 x4 x5 x6 x7 x8 x9 = tmm (Proj.xh m c) (Proj.dproj m c) := by
  subst e0 e1 e2 e3 e4 e5 e6 e7 e8 e9
  exact ProjRef.r_v87 _ _ _ _ _ _ _ _ _ _

theorem ref_v88 {x0 : Mat 4096 1024} {x1 : Mat 1024 2208} {x2 : Row 384} {x3 : Mat 384 768} {x4 : Row 256} {x5 : Mat 256 1024} {x6 : Mat 4096 1536} {x7 : Mat 4096 32} {x8 : Mat 4096 768} {x9 : Mat 4096 1024}
    (e0 : x0 = Proj.xh m c) (e1 : x1 = Proj.win m c) (e2 : x2 = Proj.gq m c) (e3 : x3 = Proj.wuq m c) (e4 : x4 = Proj.gkv m c) (e5 : x5 = Proj.wukv m c) (e6 : x6 = Proj.dmix m c) (e7 : x7 = Proj.drope m c) (e8 : x8 = Proj.dq m c) (e9 : x9 = Proj.dkv m c) :
    Cert.Reference2Ideal.Read.val_main_v88 (F := Ideal) x0 x1 x2 x3 x4 x5 x6 x7 x8 x9 = mmt (Proj.dproj m c) (Proj.win m c) := by
  subst e0 e1 e2 e3 e4 e5 e6 e7 e8 e9
  exact ProjRef.r_v88 _ _ _ _ _ _ _ _ _ _

end

/-- The eight results are the reference's, over any inputs. -/
theorem algebraic2 : Cert.algebraic_Kernel2Ideal_Reference2Ideal := by
  intro m g m' g' _ hargs
  refine ⟨fun c => Proj.cols 0 (by decide) (mm (Proj.xh m c) (Proj.win m c)),
    fun c => Proj.cols 2176 (by decide) (mm (Proj.xh m c) (Proj.win m c)),
    fun c => mm (Proj.rms Proj.c384 (Proj.xq m c) (fun j => Proj.gq m c (ix1 j))) (Proj.wuq m c),
    fun c => mm (Proj.rms Proj.c256 (Proj.xkv m c) (fun j => Proj.gkv m c (ix1 j))) (Proj.wukv m c),
    fun c => fun i => Proj.rmsDg Proj.c384 (Proj.xq m c) (Proj.dzq m c) (i 0),
    fun c => fun i => Proj.rmsDg Proj.c256 (Proj.xkv m c) (Proj.dzkv m c) (i 0),
    fun c => tmm (Proj.xh m c) (Proj.dproj m c),
    fun c => mmt (Proj.dproj m c) (Proj.win m c), ?_, ?_⟩
  · exact (θ_run _ _ _).mono (fun r hr c => ⟨(hr.1 c _ (Cert.Kernel2Ideal.Gen.mem_uc Cert.Kernel2Ideal.main_v53 (by decide))).trans (Proj.f_v53 m g c),
      (hr.1 c _ (Cert.Kernel2Ideal.Gen.mem_uc Cert.Kernel2Ideal.main_v54 (by decide))).trans (Proj.f_v54 m g c),
      (hr.1 c _ (Cert.Kernel2Ideal.Gen.mem_uc Cert.Kernel2Ideal.main_v57 (by decide))).trans (Proj.f_v57 m g c),
      (hr.1 c _ (Cert.Kernel2Ideal.Gen.mem_uc Cert.Kernel2Ideal.main_v31 (by decide))).trans (Proj.f_v31 m g c),
      (hr.1 c _ (Cert.Kernel2Ideal.Gen.mem_uc Cert.Kernel2Ideal.main_v58 (by decide))).trans (Proj.f_v58 m g c),
      (hr.1 c _ (Cert.Kernel2Ideal.Gen.mem_uc Cert.Kernel2Ideal.main_v59 (by decide))).trans (Proj.f_v59 m g c),
      (hr.1 c _ (Cert.Kernel2Ideal.Gen.mem_uc Cert.Kernel2Ideal.main_v52 (by decide))).trans (Proj.f_v52 m g c),
      (hr.1 c _ (Cert.Kernel2Ideal.Gen.mem_uc Cert.Kernel2Ideal.main_v44 (by decide))).trans (Proj.f_v44 m g c),
      Proj.args_kept m g c (hr.1 c)⟩) (Proj.run_main (F := Ideal) m g)
  · refine (θ_run _ _ _).mono (fun r hr c => ?_) (Cert.Reference2Ideal.Value.run (F := Ideal) m' g')
    have e := hargs c
    obtain ⟨h1, h2, h3, h4, h5, h6, h7, h8, hA⟩ := hr c
    refine ⟨h1.trans ?_, h2.trans ?_, h3.trans ?_, h4.trans ?_, h5.trans ?_, h6.trans ?_, h7.trans ?_, h8.trans ?_, hA⟩
    · exact (Cert.Reference2Ideal.Read.val_main_v1_eq _ _).trans (ref_v1 m c e.1 e.2.1)
    · exact (Cert.Reference2Ideal.Read.val_main_v4_eq _ _).trans (ref_v4 m c e.1 e.2.1)
    · exact (Cert.Reference2Ideal.Read.val_main_v21_eq _ _ _ _).trans (ref_v21 m c e.1 e.2.1 e.2.2.1 e.2.2.2.1)
    · exact (Cert.Reference2Ideal.Read.val_main_v38_eq _ _ _ _).trans (ref_v38 m c e.1 e.2.1 e.2.2.2.2.1 e.2.2.2.2.2.1)
    · exact (Cert.Reference2Ideal.Read.val_main_v70_eq _ _ _ _).trans (ref_v70 m c e.1 e.2.1 e.2.2.2.1 e.2.2.2.2.2.2.2.2.1)
    · exact (Cert.Reference2Ideal.Read.val_main_v47_eq _ _ _ _).trans (ref_v47 m c e.1 e.2.1 e.2.2.2.2.2.1 e.2.2.2.2.2.2.2.2.2)
    · exact (Cert.Reference2Ideal.Read.val_main_v87_eq m' c).trans (ref_v87 m c e.1 e.2.1 e.2.2.1 e.2.2.2.1 e.2.2.2.2.1 e.2.2.2.2.2.1 e.2.2.2.2.2.2.1 e.2.2.2.2.2.2.2.1 e.2.2.2.2.2.2.2.2.1 e.2.2.2.2.2.2.2.2.2)
    · exact (Cert.Reference2Ideal.Read.val_main_v88_eq m' c).trans (ref_v88 m c e.1 e.2.1 e.2.2.1 e.2.2.2.1 e.2.2.2.2.1 e.2.2.2.2.2.1 e.2.2.2.2.2.2.1 e.2.2.2.2.2.2.2.1 e.2.2.2.2.2.2.2.2.1 e.2.2.2.2.2.2.2.2.2)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts,
  frame_kernel, frame_kernelIdeal, fun m ρ _ => frame_kernelIdeal m ρ trivial, frame_reference, fun m ρ _ => frame_reference m ρ trivial,
  frame_kernel2, frame_kernel2Ideal, frame_reference2, trivial, algebraic, trivial, algebraic2⟩

end Cert.Proof

end
